-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_KernelIdeal_placed [hPre_placed : Cert.Pre_placed.Facts] (m : (ℓ : Loc Cert.KernelIdeal.nD Cert.KernelIdeal.τ Cert.KernelIdeal.sig) → Buf (Elt Ideal) ℓ) : Prop :=
  ∀ c : Dev Cert.KernelIdeal.nD,
    (Cert.Pre_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_placed [hKernelIdeal : Cert.KernelIdeal.Facts] [hPre_placed : Cert.Pre_placed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_placed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def holds_KernelIdeal_near_pre_placed [hKernelIdeal : Cert.KernelIdeal.Facts] [hPre_placed : Cert.Pre_placed.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_placed m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (r.2.mem ((c.tc : Thread Cert.KernelIdeal.nD Cert.KernelIdeal.τ).loc Cert.KernelIdeal.main_v16))) = (fun _ => 1#1))

def Claim : Prop :=
  ∃ (hKernel : Cert.Kernel.Facts) (hKernelIdeal : Cert.KernelIdeal.Facts) (hReferenceIdeal : Cert.ReferenceIdeal.Facts) (hPre_drawn : Cert.Pre_drawn.Facts) (hPre_placed : Cert.Pre_placed.Facts) (hPost_near : Cert.Post_near.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_KernelIdeal_pre_placed (hKernelIdeal := hKernelIdeal) (hPre_placed := hPre_placed)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
    ∧ holds_KernelIdeal_near_pre_placed (hKernelIdeal := hKernelIdeal) (hPre_placed := hPre_placed) (hPost_near := hPost_near)
-- ==== Post_near.lean ====
abbrev S1024x200 : Shape := ⟨2, ![1024, 200]⟩
abbrev S2x128 : Shape := ⟨2, ![2, 128]⟩
abbrev S24x128 : Shape := ⟨2, ![24, 128]⟩
abbrev S128 : Shape := ⟨1, ![128]⟩
abbrev S1024x200x128 : Shape := ⟨3, ![1024, 200, 128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S64 : Shape := ⟨1, ![64]⟩
abbrev S1x1x64 : Shape := ⟨3, ![1, 1, 64]⟩
abbrev S1024x200x64 : Shape := ⟨3, ![1024, 200, 64]⟩
abbrev S1x1x128 : Shape := ⟨3, ![1, 1, 128]⟩

class Facts : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  bcast_S_S64 : S_.BroadcastsInDim S64 (![] : Fin 0 → Fin S64.rank)
  bcast_S64_S1x1x64_2 : S64.BroadcastsInDim S1x1x64 (![2] : Fin 1 → Fin S1x1x64.rank)
  bcast_S1024x200x1_S1024x200x64_0_1_2 : S1024x200x1.BroadcastsInDim S1024x200x64 (![0, 1, 2] : Fin 3 → Fin S1024x200x64.rank)
  bcast_S1x1x64_S1024x200x64_0_1_2 : S1x1x64.BroadcastsInDim S1024x200x64 (![0, 1, 2] : Fin 3 → Fin S1024x200x64.rank)
  concatenates_S1024x200x64_S1024x200x64_S1024x200x128_d2 : Shape.Concatenates [S1024x200x64, S1024x200x64] S1024x200x128 2
  reducesTo_S1024x200x128_S1024x200_d2 : S1024x200x128.ReducesTo [2] S1024x200
  bcast_S1024x200x1_S1024x200x128_0_1_2 : S1024x200x1.BroadcastsInDim S1024x200x128 (![0, 1, 2] : Fin 3 → Fin S1024x200x128.rank)
  bcast_S128_S1x1x128_2 : S128.BroadcastsInDim S1x1x128 (![2] : Fin 1 → Fin S1x1x128.rank)
  bcast_S1x1x128_S1024x200x128_0_1_2 : S1x1x128.BroadcastsInDim S1024x200x128 (![0, 1, 2] : Fin 3 → Fin S1024x200x128.rank)
  gather_S2x128_S1024x200x1_S1024x200x128_2_0_n_n_0_2_1128_wf : GatherDims.WF S2x128 S1024x200x1 S1024x200x128 [2] [0] [] [0] [] 2 ![1, 128]
  gather_S24x128_S1024x200x1_S1024x200x128_2_0_n_n_0_2_1128_wf : GatherDims.WF S24x128 S1024x200x1 S1024x200x128 [2] [0] [] [0] [] 2 ![1, 128]

variable [Facts]

def gather_S2x128_S1024x200x1_S1024x200x128_2_0_n_n_0_2_1128 : GatherDims S2x128 S1024x200x1 S1024x200x128 where
  offsetDims := [2]
  collapsedSliceDims := [0]
  operandBatchingDims := []
  startIndicesBatchingDims := []
  startIndexMap := [0]
  indexVectorDim := 2
  sliceSizes := ![1, 128]
  wf := gather_S2x128_S1024x200x1_S1024x200x128_2_0_n_n_0_2_1128_wf
def gather_S24x128_S1024x200x1_S1024x200x128_2_0_n_n_0_2_1128 : GatherDims S24x128 S1024x200x1 S1024x200x128 where
  offsetDims := [2]
  collapsedSliceDims := [0]
  operandBatchingDims := []
  startIndicesBatchingDims := []
  startIndexMap := [0]
  indexVectorDim := 2
  sliceSizes := ![1, 128]
  wf := gather_S24x128_S1024x200x1_S1024x200x128_2_0_n_n_0_2_1128_wf
def fn_where {F : FTy → Type} [FloatOps F] (arg0 : IVec S1024x200 1) (arg1 : IVec S1024x200 32) (arg2 : IVec S1024x200 32) : IVec S1024x200 32 :=
  let v0 : IVec S1024x200 32 := select arg0 arg1 arg2
  v0

def fn_take {F : FTy → Type} [FloatOps F] (arg0 : FVec F S2x128 .f32) (arg1 : IVec S1024x200 32) : FVec F S1024x200x128 .f32 :=
  let c : IVec S_ 32 := constantI S_ 32 0#32
  let v0 : IVec S1024x200 32 := broadcastInDim S1024x200 ![] bcast_S_S1024x200 c
  let v1 : IVec S1024x200 1 := cmpi .slt arg1 v0
  let c_0 : IVec S_ 32 := constantI S_ 32 2#32
  let v2 : IVec S1024x200 32 := broadcastInDim S1024x200 ![] bcast_S_S1024x200 c_0
  let v3 : IVec S1024x200 32 := addi arg1 v2
  let v4 : IVec S1024x200 32 := fn_where (F := F) v1 v3 arg1
  let v5 : IVec S1024x200x1 32 := broadcastInDim S1024x200x1 ![0, 1] bcast_S1024x200_S1024x200x1_0_1 v4
  let c_1 : IVec S1 32 := constantI S1 32 1#32
  let c_2 : IVec S_ 32 := constantI S_ 32 0#32
  let v6 : IVec S1024x200x1 32 := broadcastInDim S1024x200x1 ![] bcast_S_S1024x200x1 c_2
  let v7 : IVec S1024x200x1 1 := cmpi .sge v5 v6
  let v8 : IVec S1x1x1 32 := broadcastInDim S1x1x1 ![2] bcast_S1_S1x1x1_2 c_1
  let v9 : IVec S1024x200x1 32 := broadcastInDim S1024x200x1 ![0, 1, 2] bcast_S1x1x1_S1024x200x1_0_1_2 v8
  let v10 : IVec S1024x200x1 1 := cmpi .sle v5 v9
  let v11 : IVec S1024x200x1 1 := andi v7 v10
  let c_3 : IVec S_ 1 := constantI S_ 1 1#1
  let v12 : IVec S1024x200 1 := (fun x v => Host.reduce IntOp.andi x v reducesTo_S1024x200x1_S1024x200_d2 h_S_) v11 c_3
  let v13 : FVec F S1024x200x128 .f32 := (fun x i => Host.gather gather_S2x128_S1024x200x1_S1024x200x128_2_0_n_n_0_2_1128 x i) arg0 v5
  let v14 : IVec S1024x200x128 1 := broadcastInDim S1024x200x128 ![0, 1] bcast_S1024x200_S1024x200x128_0_1 v12
  let cst : FVec F S_ .f32 := constant S_ .f32 0x7FC00000#32
  let v15 : FVec F S1024x200x128 .f32 := broadcastInDim S1024x200x128 ![] bcast_S_S1024x200x128 cst
  let v16 : FVec F S1024x200x128 .f32 := select v14 v13 v15
  v16

def fn_take_0 {F : FTy → Type} [FloatOps F] (arg0 : FVec F S24x128 .f32) (arg1 : IVec S1024x200 32) : FVec F S1024x200x128 .f32 :=
  let c : IVec S_ 32 := constantI S_ 32 0#32
  let v0 : IVec S1024x200 32 := broadcastInDim S1024x200 ![] bcast_S_S1024x200 c
  let v1 : IVec S1024x200 1 := cmpi .slt arg1 v0
  let c_0 : IVec S_ 32 := constantI S_ 32 24#32
  let v2 : IVec S1024x200 32 := broadcastInDim S1024x200 ![] bcast_S_S1024x200 c_0
  let v3 : IVec S1024x200 32 := addi arg1 v2
  let v4 : IVec S1024x200 32 := fn_where (F := F) v1 v3 arg1
  let v5 : IVec S1024x200x1 32 := broadcastInDim S1024x200x1 ![0, 1] bcast_S1024x200_S1024x200x1_0_1 v4
  let c_1 : IVec S1 32 := constantI S1 32 23#32
  let c_2 : IVec S_ 32 := constantI S_ 32 0#32
  let v6 : IVec S1024x200x1 32 := broadcastInDim S1024x200x1 ![] bcast_S_S1024x200x1 c_2
  let v7 : IVec S1024x200x1 1 := cmpi .sge v5 v6
  let v8 : IVec S1x1x1 32 := broadcastInDim S1x1x1 ![2] bcast_S1_S1x1x1_2 c_1
  let v9 : IVec S1024x200x1 32 := broadcastInDim S1024x200x1 ![0, 1, 2] bcast_S1x1x1_S1024x200x1_0_1_2 v8
  let v10 : IVec S1024x200x1 1 := cmpi .sle v5 v9
  let v11 : IVec S1024x200x1 1 := andi v7 v10
  let c_3 : IVec S_ 1 := constantI S_ 1 1#1
  let v12 : IVec S1024x200 1 := (fun x v => Host.reduce IntOp.andi x v reducesTo_S1024x200x1_S1024x200_d2 h_S_) v11 c_3
  let v13 : FVec F S1024x200x128 .f32 := (fun x i => Host.gather gather_S24x128_S1024x200x1_S1024x200x128_2_0_n_n_0_2_1128 x i) arg0 v5
  let v14 : IVec S1024x200x128 1 := broadcastInDim S1024x200x128 ![0, 1] bcast_S1024x200_S1024x200x128_0_1 v12
  let cst : FVec F S_ .f32 := constant S_ .f32 0x7FC00000#32
  let v15 : FVec F S1024x200x128 .f32 := broadcastInDim S1024x200x128 ![] bcast_S_S1024x200x128 cst
  let v16 : FVec F S1024x200x128 .f32 := select v14 v13 v15
  v16

def fn_part2 {F : FTy → Type} [FloatOps F] (main_arg5 : FVec F S128 .f32) (main_arg6 : FVec F S128 .f32) (main_arg7 : FVec F S1024x200x128 .f32) (main_v35 : FVec F S1024x200x1 .f32) (main_v37 : FVec F S1024x200x128 .f32) (main_v38 : FVec F S1024x200x128 .f32) : IVec S1024x200x128 1 :=
  let main_v39 : FVec F S1024x200x128 .f32 := Host.divf main_v37 main_v38
  let main_v40 : FVec F S1x1x128 .f32 := broadcastInDim S1x1x128 ![2] bcast_S128_S1x1x128_2 main_arg5
  let main_v41 : FVec F S1024x200x128 .f32 := broadcastInDim S1024x200x128 ![0, 1, 2] bcast_S1x1x128_S1024x200x128_0_1_2 main_v40
  let main_v42 : FVec F S1024x200x128 .f32 := mulf main_v39 main_v41
  let main_v43 : FVec F S1x1x128 .f32 := broadcastInDim S1x1x128 ![2] bcast_S128_S1x1x128_2 main_arg6
  let main_v44 : FVec F S1024x200x128 .f32 := broadcastInDim S1024x200x128 ![0, 1, 2] bcast_S1x1x128_S1024x200x128_0_1_2 main_v43
  let main_v45 : FVec F S1024x200x128 .f32 := addf main_v42 main_v44
  let main_v46 : FVec F S1024x200x128 .f32 := subf main_arg7 main_v45
  let main_v47 : FVec F S1024x200x128 .f32 := Host.absf main_v46
  let main_v48 : FVec F S1024x200x128 .f32 := broadcastInDim S1024x200x128 ![0, 1, 2] bcast_S1024x200x1_S1024x200x128_0_1_2 main_v35
  let main_v49 : FVec F S1024x200x128 .f32 := mulf main_v47 main_v48
  let main_v50 : FVec F S1024x200x128 .f32 := Host.absf main_arg7
  let main_cst_8 : FVec F S_ .f32 := constant S_ .f32 0x40000000#32
  let main_v51 : FVec F S1024x200x128 .f32 := broadcastInDim S1024x200x128 ![] bcast_S_S1024x200x128 main_cst_8
  let main_v52 : FVec F S1024x200x128 .f32 := addf main_v51 main_v50
  let main_cst_9 : FVec F S_ .f32 := constant S_ .f32 0x3B449BA6#32
  let main_v53 : FVec F S1024x200x128 .f32 := broadcastInDim S1024x200x128 ![] bcast_S_S1024x200x128 main_cst_9
  let main_v54 : FVec F S1024x200x128 .f32 := mulf main_v53 main_v52
  let main_v55 : IVec S1024x200x128 1 := cmpf .ole main_v49 main_v54
  main_v55

def fn_part1 {F : FTy → Type} [FloatOps F] (main_arg5 : FVec F S128 .f32) (main_arg6 : FVec F S128 .f32) (main_arg7 : FVec F S1024x200x128 .f32) (main_v2 : FVec F S1024x200x128 .f32) (main_v18 : FVec F S1024x200x64 .f32) (main_v19 : FVec F S1024x200x64 .f32) : IVec S1024x200x128 1 :=
  let main_v20 : FVec F S1024x200x128 .f32 := (fun a b => concatenate S1024x200x128 2 [⟨S1024x200x64, a⟩, ⟨S1024x200x64, b⟩] concatenates_S1024x200x64_S1024x200x64_S1024x200x128_d2) main_v18 main_v19
  let main_v21 : FVec F S1024x200x128 .f32 := addf main_v2 main_v20
  let main_cst_3 : FVec F S_ .f32 := constant S_ .f32 0x00000000#32
  let main_v22 : FVec F S1024x200 .f32 := (fun x v => Host.reduceAdd x v reducesTo_S1024x200x128_S1024x200_d2 h_S_) main_v21 main_cst_3
  let main_v23 : FVec F S1024x200x1 .f32 := broadcastInDim S1024x200x1 ![0, 1] bcast_S1024x200_S1024x200x1_0_1 main_v22
  let main_cst_4 : FVec F S_ .f32 := constant S_ .f32 0x43000000#32
  let main_v24 : FVec F S1024x200x1 .f32 := broadcastInDim S1024x200x1 ![] bcast_S_S1024x200x1 main_cst_4
  let main_v25 : FVec F S1024x200x1 .f32 := Host.divf main_v23 main_v24
  let main_v26 : FVec F S1024x200x128 .f32 := broadcastInDim S1024x200x128 ![0, 1, 2] bcast_S1024x200x1_S1024x200x128_0_1_2 main_v25
  let main_v27 : FVec F S1024x200x128 .f32 := subf main_v21 main_v26
  let main_v28 : FVec F S1024x200x128 .f32 := mulf main_v27 main_v27
  let main_cst_5 : FVec F S_ .f32 := constant S_ .f32 0x00000000#32
  let main_v29 : FVec F S1024x200 .f32 := (fun x v => Host.reduceAdd x v reducesTo_S1024x200x128_S1024x200_d2 h_S_) main_v28 main_cst_5
  let main_v30 : FVec F S1024x200x1 .f32 := broadcastInDim S1024x200x1 ![0, 1] bcast_S1024x200_S1024x200x1_0_1 main_v29
  let main_cst_6 : FVec F S_ .f32 := constant S_ .f32 0x43000000#32
  let main_v31 : FVec F S1024x200x1 .f32 := broadcastInDim S1024x200x1 ![] bcast_S_S1024x200x1 main_cst_6
  let main_v32 : FVec F S1024x200x1 .f32 := Host.divf main_v30 main_v31
  let main_cst_7 : FVec F S_ .f32 := constant S_ .f32 0x3727C5AC#32
  let main_v33 : FVec F S1024x200x1 .f32 := broadcastInDim S1024x200x1 ![] bcast_S_S1024x200x1 main_cst_7
  let main_v34 : FVec F S1024x200x1 .f32 := addf main_v32 main_v33
  let main_v35 : FVec F S1024x200x1 .f32 := Host.sqrt main_v34
  let main_v36 : FVec F S1024x200x128 .f32 := broadcastInDim S1024x200x128 ![0, 1, 2] bcast_S1024x200x1_S1024x200x128_0_1_2 main_v25
  let main_v37 : FVec F S1024x200x128 .f32 := subf main_v21 main_v36
  let main_v38 : FVec F S1024x200x128 .f32 := broadcastInDim S1024x200x128 ![0, 1, 2] bcast_S1024x200x1_S1024x200x128_0_1_2 main_v35
  fn_part2 (F := F) main_arg5 main_arg6 main_arg7 main_v35 main_v37 main_v38

def fn {F : FTy → Type} [FloatOps F] (main_arg0 : IVec S1024x200 32) (main_arg1 : IVec S1024x200 32) (main_arg2 : IVec S1024x200 32) (main_arg3 : FVec F S2x128 .f32) (main_arg4 : FVec F S24x128 .f32) (main_arg5 : FVec F S128 .f32) (main_arg6 : FVec F S128 .f32) (main_arg7 : FVec F S1024x200x128 .f32) : IVec S1024x200x128 1 :=
  let main_v0 : FVec F S1024x200x128 .f32 := fn_take (F := F) main_arg3 main_arg0
  let main_v1 : FVec F S1024x200x128 .f32 := fn_take_0 (F := F) main_arg4 main_arg1
  let main_v2 : FVec F S1024x200x128 .f32 := addf main_v0 main_v1
  let main_v3 : FVec F S64 .f32 := sitofp .f32 (iotaInDim S64 32 0)
  let main_cst : FVec F S_ .f32 := constant S_ .f32 0x40000000#32
  let main_v4 : FVec F S64 .f32 := broadcastInDim S64 ![] bcast_S_S64 main_cst
  let main_v5 : FVec F S64 .f32 := mulf main_v4 main_v3
  let main_cst_0 : FVec F S_ .f32 := constant S_ .f32 0x43000000#32
  let main_v6 : FVec F S64 .f32 := broadcastInDim S64 ![] bcast_S_S64 main_cst_0
  let main_v7 : FVec F S64 .f32 := Host.divf main_v5 main_v6
  let main_cst_1 : FVec F S_ .f32 := constant S_ .f32 0x461C4000#32
  let main_v8 : FVec F S64 .f32 := broadcastInDim S64 ![] bcast_S_S64 main_cst_1
  let main_v9 : FVec F S64 .f32 := Host.powf main_v8 main_v7
  let main_cst_2 : FVec F S_ .f32 := constant S_ .f32 0x3F800000#32
  let main_v10 : FVec F S64 .f32 := broadcastInDim S64 ![] bcast_S_S64 main_cst_2
  let main_v11 : FVec F S64 .f32 := Host.divf main_v10 main_v9
  let main_v12 : IVec S1024x200x1 32 := broadcastInDim S1024x200x1 ![0, 1] bcast_S1024x200_S1024x200x1_0_1 main_arg2
  let main_v13 : FVec F S1024x200x1 .f32 := sitofp .f32 main_v12
  let main_v14 : FVec F S1x1x64 .f32 := broadcastInDim S1x1x64 ![2] bcast_S64_S1x1x64_2 main_v11
  let main_v15 : FVec F S1024x200x64 .f32 := broadcastInDim S1024x200x64 ![0, 1, 2] bcast_S1024x200x1_S1024x200x64_0_1_2 main_v13
  let main_v16 : FVec F S1024x200x64 .f32 := broadcastInDim S1024x200x64 ![0, 1, 2] bcast_S1x1x64_S1024x200x64_0_1_2 main_v14
  let main_v17 : FVec F S1024x200x64 .f32 := mulf main_v15 main_v16
  let main_v18 : FVec F S1024x200x64 .f32 := Host.sin main_v17
  let main_v19 : FVec F S1024x200x64 .f32 := Host.cos main_v17
  fn_part1 (F := F) main_arg5 main_arg6 main_arg7 main_v2 main_v18 main_v19
-- ==== Pre_drawn.lean ====
abbrev S1024x200 : Shape := ⟨2, ![1024, 200]⟩
abbrev S2x128 : Shape := ⟨2, ![2, 128]⟩
abbrev S24x128 : Shape := ⟨2, ![24, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  bcast_S_S2x128 : S_.BroadcastsInDim S2x128 (![] : Fin 0 → Fin S2x128.rank)
  bcast_S_S24x128 : S_.BroadcastsInDim S24x128 (![] : Fin 0 → Fin S24x128.rank)
  bcast_S_S128 : S_.BroadcastsInDim S128 (![] : Fin 0 → Fin S128.rank)

variable [Facts]

def fn_part1 {F : FTy → Type} [FloatOps F] (main_arg5 : FVec F S128 .f32) (main_arg6 : FVec F S128 .f32) (main_v4 : IVec S1024x200 1) (main_v9 : IVec S1024x200 1) (main_v12 : IVec S2x128 1) (main_v15 : IVec S24x128 1) (main_v16 : FVec F S128 .f32) : IVec S1024x200 1 × IVec S1024x200 1 × IVec S2x128 1 × IVec S24x128 1 × IVec S128 1 × IVec S128 1 :=
  let main_v17 : IVec S128 1 := cmpf .oeq main_arg5 main_v16
  let main_cst_5 : FVec F S_ .f32 := constant S_ .f32 0x00000000#32
  let main_v18 : FVec F S128 .f32 := broadcastInDim S128 ![] bcast_S_S128 main_cst_5
  let main_v19 : IVec S128 1 := cmpf .oeq main_arg6 main_v18
  (main_v4, main_v9, main_v12, main_v15, main_v17, main_v19)

def fn {F : FTy → Type} [FloatOps F] (main_arg0 : IVec S1024x200 32) (main_arg1 : IVec S1024x200 32) (main_arg2 : IVec S1024x200 32) (main_arg3 : FVec F S2x128 .f32) (main_arg4 : FVec F S24x128 .f32) (main_arg5 : FVec F S128 .f32) (main_arg6 : FVec F S128 .f32) : IVec S1024x200 1 × IVec S1024x200 1 × IVec S2x128 1 × IVec S24x128 1 × IVec S128 1 × IVec S128 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 2#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 32 := constantI S_ 32 0#32
  let main_v5 : IVec S1024x200 32 := broadcastInDim S1024x200 ![] bcast_S_S1024x200 main_c_1
  let main_v6 : IVec S1024x200 1 := cmpi .sge main_arg1 main_v5
  let main_c_2 : IVec S_ 32 := constantI S_ 32 24#32
  let main_v7 : IVec S1024x200 32 := broadcastInDim S1024x200 ![] bcast_S_S1024x200 main_c_2
  let main_v8 : IVec S1024x200 1 := cmpi .slt main_arg1 main_v7
  let main_v9 : IVec S1024x200 1 := andi main_v6 main_v8
  let main_v10 : FVec F S2x128 .f32 := Host.absf main_arg3
  let main_cst : FVec F S_ .f32 := constant S_ .f32 0x7F800000#32
  let main_v11 : FVec F S2x128 .f32 := broadcastInDim S2x128 ![] bcast_S_S2x128 main_cst
  let main_v12 : IVec S2x128 1 := cmpf .olt main_v10 main_v11
  let main_v13 : FVec F S24x128 .f32 := Host.absf main_arg4
  let main_cst_3 : FVec F S_ .f32 := constant S_ .f32 0x7F800000#32
  let main_v14 : FVec F S24x128 .f32 := broadcastInDim S24x128 ![] bcast_S_S24x128 main_cst_3
  let main_v15 : IVec S24x128 1 := cmpf .olt main_v13 main_v14
  let main_cst_4 : FVec F S_ .f32 := constant S_ .f32 0x3F800000#32
  let main_v16 : FVec F S128 .f32 := broadcastInDim S128 ![] bcast_S_S128 main_cst_4
  fn_part1 (F := F) main_arg5 main_arg6 main_v4 main_v9 main_v12 main_v15 main_v16
-- ==== Pre_placed.lean ====
abbrev S1024x200 : Shape := ⟨2, ![1024, 200]⟩
abbrev S2x128 : Shape := ⟨2, ![2, 128]⟩
abbrev S24x128 : Shape := ⟨2, ![24, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  bcast_S_S2x128 : S_.BroadcastsInDim S2x128 (![] : Fin 0 → Fin S2x128.rank)
  bcast_S_S24x128 : S_.BroadcastsInDim S24x128 (![] : Fin 0 → Fin S24x128.rank)
  bcast_S_S128 : S_.BroadcastsInDim S128 (![] : Fin 0 → Fin S128.rank)

variable [Facts]

def fn_part1 {F : FTy → Type} [FloatOps F] (main_arg2 : IVec S1024x200 32) (main_arg5 : FVec F S128 .f32) (main_arg6 : FVec F S128 .f32) (main_v4 : IVec S1024x200 1) (main_v9 : IVec S1024x200 1) (main_v12 : IVec S2x128 1) (main_v15 : IVec S24x128 1) (main_v16 : FVec F S128 .f32) : IVec S1024x200 1 × IVec S1024x200 1 × IVec S2x128 1 × IVec S24x128 1 × IVec S128 1 × IVec S128 1 × IVec S1024x200 1 :=
  let main_v17 : IVec S128 1 := cmpf .oeq main_arg5 main_v16
  let main_cst_5 : FVec F S_ .f32 := constant S_ .f32 0x00000000#32
  let main_v18 : FVec F S128 .f32 := broadcastInDim S128 ![] bcast_S_S128 main_cst_5
  let main_v19 : IVec S128 1 := cmpf .oeq main_arg6 main_v18
  let main_c_6 : IVec S_ 32 := constantI S_ 32 0#32
  let main_v20 : IVec S1024x200 32 := broadcastInDim S1024x200 ![] bcast_S_S1024x200 main_c_6
  let main_v21 : IVec S1024x200 1 := cmpi .sge main_arg2 main_v20
  let main_c_7 : IVec S_ 32 := constantI S_ 32 1000000#32
  let main_v22 : IVec S1024x200 32 := broadcastInDim S1024x200 ![] bcast_S_S1024x200 main_c_7
  let main_v23 : IVec S1024x200 1 := cmpi .slt main_arg2 main_v22
  let main_v24 : IVec S1024x200 1 := andi main_v21 main_v23
  (main_v4, main_v9, main_v12, main_v15, main_v17, main_v19, main_v24)

def fn {F : FTy → Type} [FloatOps F] (main_arg0 : IVec S1024x200 32) (main_arg1 : IVec S1024x200 32) (main_arg2 : IVec S1024x200 32) (main_arg3 : FVec F S2x128 .f32) (main_arg4 : FVec F S24x128 .f32) (main_arg5 : FVec F S128 .f32) (main_arg6 : FVec F S128 .f32) : IVec S1024x200 1 × IVec S1024x200 1 × IVec S2x128 1 × IVec S24x128 1 × IVec S128 1 × IVec S128 1 × IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 2#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 32 := constantI S_ 32 0#32
  let main_v5 : IVec S1024x200 32 := broadcastInDim S1024x200 ![] bcast_S_S1024x200 main_c_1
  let main_v6 : IVec S1024x200 1 := cmpi .sge main_arg1 main_v5
  let main_c_2 : IVec S_ 32 := constantI S_ 32 24#32
  let main_v7 : IVec S1024x200 32 := broadcastInDim S1024x200 ![] bcast_S_S1024x200 main_c_2
  let main_v8 : IVec S1024x200 1 := cmpi .slt main_arg1 main_v7
  let main_v9 : IVec S1024x200 1 := andi main_v6 main_v8
  let main_v10 : FVec F S2x128 .f32 := Host.absf main_arg3
  let main_cst : FVec F S_ .f32 := constant S_ .f32 0x7F800000#32
  let main_v11 : FVec F S2x128 .f32 := broadcastInDim S2x128 ![] bcast_S_S2x128 main_cst
  let main_v12 : IVec S2x128 1 := cmpf .olt main_v10 main_v11
  let main_v13 : FVec F S24x128 .f32 := Host.absf main_arg4
  let main_cst_3 : FVec F S_ .f32 := constant S_ .f32 0x7F800000#32
  let main_v14 : FVec F S24x128 .f32 := broadcastInDim S24x128 ![] bcast_S_S24x128 main_cst_3
  let main_v15 : IVec S24x128 1 := cmpf .olt main_v13 main_v14
  let main_cst_4 : FVec F S_ .f32 := constant S_ .f32 0x3F800000#32
  let main_v16 : FVec F S128 .f32 := broadcastInDim S128 ![] bcast_S_S128 main_cst_4
  fn_part1 (F := F) main_arg2 main_arg5 main_arg6 main_v4 main_v9 main_v12 main_v15 main_v16
-- ==== Kernel.lean ====
abbrev S1024x200 : Shape := ⟨2, ![1024, 200]⟩
abbrev S2x128 : Shape := ⟨2, ![2, 128]⟩
abbrev S24x128 : Shape := ⟨2, ![24, 128]⟩
abbrev S128 : Shape := ⟨1, ![128]⟩
abbrev S16x100x128 : Shape := ⟨3, ![16, 100, 128]⟩
abbrev S64 : Shape := ⟨1, ![64]⟩
abbrev S_ : Shape := ⟨0, ![]⟩
abbrev S64x1 : Shape := ⟨2, ![64, 1]⟩
abbrev S26x128 : Shape := ⟨2, ![26, 128]⟩
abbrev S128x26 : Shape := ⟨2, ![128, 26]⟩
abbrev S204800x128 : Shape := ⟨2, ![204800, 128]⟩
abbrev S1x100x128 : Shape := ⟨3, ![1, 100, 128]⟩
abbrev S2x3200x128 : Shape := ⟨3, ![2, 3200, 128]⟩
abbrev S2 : Shape := ⟨1, ![2]⟩
abbrev S1 : Shape := ⟨1, ![1]⟩
abbrev S3200x128 : Shape := ⟨2, ![3200, 128]⟩
abbrev S1x3200x128 : Shape := ⟨3, ![1, 3200, 128]⟩
abbrev S1x1x128 : Shape := ⟨3, ![1, 1, 128]⟩
abbrev S1x128 : Shape := ⟨2, ![1, 128]⟩
abbrev S64x128 : Shape := ⟨2, ![64, 128]⟩
abbrev S128x128 : Shape := ⟨2, ![128, 128]⟩
abbrev S1x128x128 : Shape := ⟨3, ![1, 128, 128]⟩
abbrev S1024x200x128 : Shape := ⟨3, ![1024, 200, 128]⟩

abbrev nBuf : Space → Nat
  | .hbm => 28
  | .vmem => 9
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S1024x200, .i32⟩
  | .hbm, ⟨3, _⟩ => ⟨S2x128, .f32⟩
  | .hbm, ⟨4, _⟩ => ⟨S24x128, .f32⟩
  | .hbm, ⟨5, _⟩ => ⟨S128, .f32⟩
  | .hbm, ⟨6, _⟩ => ⟨S128, .f32⟩
  | .hbm, ⟨7, _⟩ => ⟨S16x100x128, .i32⟩
  | .hbm, ⟨8, _⟩ => ⟨S16x100x128, .i32⟩
  | .hbm, ⟨9, _⟩ => ⟨S16x100x128, .i32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64x1, .f32⟩
  | .hbm, ⟨24, _⟩ => ⟨S26x128, .f32⟩
  | .hbm, ⟨25, _⟩ => ⟨S128x26, .f32⟩
  | .hbm, ⟨26, _⟩ => ⟨S204800x128, .f32⟩
  | .hbm, ⟨27, _⟩ => ⟨S1024x200x128, .f32⟩
  | .local _ .vmem, ⟨0, _⟩ => ⟨S1x100x128, .i32⟩
  | .local _ .vmem, ⟨1, _⟩ => ⟨S1x100x128, .i32⟩
  | .local _ .vmem, ⟨2, _⟩ => ⟨S1x100x128, .i32⟩
  | .local _ .vmem, ⟨3, _⟩ => ⟨S1x100x128, .i32⟩
  | .local _ .vmem, ⟨4, _⟩ => ⟨S1x100x128, .i32⟩
  | .local _ .vmem, ⟨5, _⟩ => ⟨S1x100x128, .i32⟩
  | .local _ .vmem, ⟨6, _⟩ => ⟨S128x26, .f32⟩
  | .local _ .vmem, ⟨7, _⟩ => ⟨S64x1, .f32⟩
  | .local _ .vmem, ⟨8, _⟩ => ⟨S2x3200x128, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let v5 : BitVec 32 := Scalar.muli arg0 c4_i32
  let c0_i32 : BitVec 32 := 0#32
  let v6 : BitVec 32 := Scalar.addi v5 c0_i32
  let c2_i32 : BitVec 32 := 2#32
  let v7 : BitVec 1 := Scalar.cmpi .sge v6 c2_i32
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg0 : BitVec 32 := BitVec.ofNat 32 (i 0).val
  let c4_i32 : BitVec 32 := 4#32
  let v5 : BitVec 32 := Scalar.muli arg0 c4_i32
  let c0_i32 : BitVec 32 := 0#32
  let v6 : BitVec 32 := Scalar.addi v5 c0_i32
  let c2_i32_2914 : BitVec 32 := 2#32
  let v7552 : BitVec 32 := Scalar.subi v6 c2_i32_2914
  let c0_i32_2915 : BitVec 32 := 0#32
  let v7553 : BitVec 32 := Scalar.maxsi v7552 c0_i32_2915
  let c3200_i32_2916 : BitVec 32 := 3200#32
  let v7554 : BitVec 32 := Scalar.muli v7553 c3200_i32_2916
  let c0_i32_2919 : BitVec 32 := 0#32
  ![v7554.toNat, 0]
def k0_off2 (i : grid0.Coords) (c0_i32 : BitVec 32) : Fin 2 → Nat :=
  let arg0 : BitVec 32 := BitVec.ofNat 32 (i 0).val
  let c4_i32 : BitVec 32 := 4#32
  let v5 : BitVec 32 := Scalar.muli arg0 c4_i32
  let v6 : BitVec 32 := Scalar.addi v5 c0_i32
  let c3200_i32 : BitVec 32 := 3200#32
  let v1885 : BitVec 32 := Scalar.muli v6 c3200_i32
  let c0_i32_707 : BitVec 32 := 0#32
  ![v1885.toNat, 0]
def k0_cond2 (i : grid0.Coords) : BitVec 1 :=
  let arg0 : BitVec 32 := BitVec.ofNat 32 (i 0).val
  let c4_i32_710 : BitVec 32 := 4#32
  let v1891 : BitVec 32 := Scalar.muli arg0 c4_i32_710
  let c1_i32 : BitVec 32 := 1#32
  let v1892 : BitVec 32 := Scalar.addi v1891 c1_i32
  let c2_i32_711 : BitVec 32 := 2#32
  let v1893 : BitVec 1 := Scalar.cmpi .sge v1892 c2_i32_711
  let v1894 : BitVec 32 := Scalar.extui v1893
  let c0_i32_712 : BitVec 32 := 0#32
  let v1895 : BitVec 1 := Scalar.cmpi .ne v1894 c0_i32_712
  v1895

def k0_off3 (i : grid0.Coords) : Fin 2 → Nat :=
  let arg0 : BitVec 32 := BitVec.ofNat 32 (i 0).val
  let c4_i32_710 : BitVec 32 := 4#32
  let v1891 : BitVec 32 := Scalar.muli arg0 c4_i32_710
  let c1_i32 : BitVec 32 := 1#32
  let v1892 : BitVec 32 := Scalar.addi v1891 c1_i32
  let c2_i32_2914 : BitVec 32 := 2#32
  let v7552 : BitVec 32 := Scalar.subi v1892 c2_i32_2914
  let c0_i32_2915 : BitVec 32 := 0#32
  let v7553 : BitVec 32 := Scalar.maxsi v7552 c0_i32_2915
  let c3200_i32_2916 : BitVec 32 := 3200#32
  let v7554 : BitVec 32 := Scalar.muli v7553 c3200_i32_2916
  let c0_i32_2919 : BitVec 32 := 0#32
  ![v7554.toNat, 0]
def k0_cond3 (i : grid0.Coords) : BitVec 1 :=
  let arg0 : BitVec 32 := BitVec.ofNat 32 (i 0).val
  let c4_i32_1444 : BitVec 32 := 4#32
  let v3777 : BitVec 32 := Scalar.muli arg0 c4_i32_1444
  let c2_i32_1445 : BitVec 32 := 2#32
  let v3778 : BitVec 32 := Scalar.addi v3777 c2_i32_1445
  let c2_i32_1446 : BitVec 32 := 2#32
  let v3779 : BitVec 1 := Scalar.cmpi .sge v3778 c2_i32_1446
  let v3780 : BitVec 32 := Scalar.extui v3779
  let c0_i32_1447 : BitVec 32 := 0#32
  let v3781 : BitVec 1 := Scalar.cmpi .ne v3780 c0_i32_1447
  v3781

def k0_off4 (i : grid0.Coords) : Fin 2 → Nat :=
  let arg0 : BitVec 32 := BitVec.ofNat 32 (i 0).val
  let c4_i32_1444 : BitVec 32 := 4#32
  let v3777 : BitVec 32 := Scalar.muli arg0 c4_i32_1444
  let c2_i32_1445 : BitVec 32 := 2#32
  let v3778 : BitVec 32 := Scalar.addi v3777 c2_i32_1445
  let c2_i32_2914 : BitVec 32 := 2#32
  let v7552 : BitVec 32 := Scalar.subi v3778 c2_i32_2914
  let c0_i32_2915 : BitVec 32 := 0#32
  let v7553 : BitVec 32 := Scalar.maxsi v7552 c0_i32_2915
  let c3200_i32_2916 : BitVec 32 := 3200#32
  let v7554 : BitVec 32 := Scalar.muli v7553 c3200_i32_2916
  let c0_i32_2919 : BitVec 32 := 0#32
  ![v7554.toNat, 0]
def k0_cond4 (i : grid0.Coords) : BitVec 1 :=
  let arg0 : BitVec 32 := BitVec.ofNat 32 (i 0).val
  let c4_i32_2179 : BitVec 32 := 4#32
  let v5663 : BitVec 32 := Scalar.muli arg0 c4_i32_2179
  let c3_i32 : BitVec 32 := 3#32
  let v5664 : BitVec 32 := Scalar.addi v5663 c3_i32
  let c2_i32_2180 : BitVec 32 := 2#32
  let v5665 : BitVec 1 := Scalar.cmpi .sge v5664 c2_i32_2180
  let v5666 : BitVec 32 := Scalar.extui v5665
  let c0_i32_2181 : BitVec 32 := 0#32
  let v5667 : BitVec 1 := Scalar.cmpi .ne v5666 c0_i32_2181
  v5667

def k0_off5 (i : grid0.Coords) : Fin 2 → Nat :=
  let arg0 : BitVec 32 := BitVec.ofNat 32 (i 0).val
  let c4_i32_2179 : BitVec 32 := 4#32
  let v5663 : BitVec 32 := Scalar.muli arg0 c4_i32_2179
  let c3_i32 : BitVec 32 := 3#32
  let v5664 : BitVec 32 := Scalar.addi v5663 c3_i32
  let c2_i32_2914 : BitVec 32 := 2#32
  let v7552 : BitVec 32 := Scalar.subi v5664 c2_i32_2914
  let c0_i32_2915 : BitVec 32 := 0#32
  let v7553 : BitVec 32 := Scalar.maxsi v7552 c0_i32_2915
  let c3200_i32_2916 : BitVec 32 := 3200#32
  let v7554 : BitVec 32 := Scalar.muli v7553 c3200_i32_2916
  let c0_i32_2919 : BitVec 32 := 0#32
  ![v7554.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x100x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x100x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x100x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x26 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x200 : Shape := ⟨2, ![1024, 200]⟩
abbrev S2x128 : Shape := ⟨2, ![2, 128]⟩
abbrev S24x128 : Shape := ⟨2, ![24, 128]⟩
abbrev S128 : Shape := ⟨1, ![128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S64 : Shape := ⟨1, ![64]⟩
abbrev S1x1x64 : Shape := ⟨3, ![1, 1, 64]⟩
abbrev S1024x200x64 : Shape := ⟨3, ![1024, 200, 64]⟩
abbrev S1x1x128 : Shape := ⟨3, ![1, 1, 128]⟩

abbrev nBuf : Space → Nat
  | .hbm => 160
  | .vmem => 0
  | .smem => 0
  | _ => 0

abbrev hbmTy0_0 (i : Nat) : BufTy := match i % 128 with
  | 0 => ⟨S1024x200, .i32⟩
  | 1 => ⟨S1024x200, .i32⟩
  | 2 => ⟨S1024x200, .i32⟩
  | 3 => ⟨S2x128, .f32⟩
  | 4 => ⟨S24x128, .f32⟩
  | 5 => ⟨S128, .f32⟩
  | 6 => ⟨S128, .f32⟩
  | 7 => ⟨S_, .i32⟩
  | 8 => ⟨S1024x200, .i32⟩
  | 9 => ⟨S1024x200, .i1⟩
  | 10 => ⟨S_, .i32⟩
  | 11 => ⟨S1024x200, .i32⟩
  | 12 => ⟨S1024x200, .i32⟩
  | 13 => ⟨S1024x200, .i32⟩
  | 14 => ⟨S1024x200x1, .i32⟩
  | 15 => ⟨S1, .i32⟩
  | 16 => ⟨S_, .i32⟩
  | 17 => ⟨S1024x200x1, .i32⟩
  | 18 => ⟨S1024x200x1, .i1⟩
  | 19 => ⟨S1x1x1, .i32⟩
  | 20 => ⟨S1024x200x1, .i32⟩
  | 21 => ⟨S1024x200x1, .i1⟩
  | 22 => ⟨S1024x200x1, .i1⟩
  | 23 => ⟨S_, .i1⟩
  | 24 => ⟨S1024x200, .i1⟩
  | 25 => ⟨S1024x200x128, .f32⟩
  | 26 => ⟨S1024x200x128, .i1⟩
  | 27 => ⟨S_, .f32⟩
  | 28 => ⟨S1024x200x128, .f32⟩
  | 29 => ⟨S1024x200x128, .f32⟩
  | 30 => ⟨S_, .i32⟩
  | 31 => ⟨S1024x200, .i32⟩
  | 32 => ⟨S1024x200, .i1⟩
  | 33 => ⟨S_, .i32⟩
  | 34 => ⟨S1024x200, .i32⟩
  | 35 => ⟨S1024x200, .i32⟩
  | 36 => ⟨S1024x200, .i32⟩
  | 37 => ⟨S1024x200x1, .i32⟩
  | 38 => ⟨S1, .i32⟩
  | 39 => ⟨S_, .i32⟩
  | 40 => ⟨S1024x200x1, .i32⟩
  | 41 => ⟨S1024x200x1, .i1⟩
  | 42 => ⟨S1x1x1, .i32⟩
  | 43 => ⟨S1024x200x1, .i32⟩
  | 44 => ⟨S1024x200x1, .i1⟩
  | 45 => ⟨S1024x200x1, .i1⟩
  | 46 => ⟨S_, .i1⟩
  | 47 => ⟨S1024x200, .i1⟩
  | 48 => ⟨S1024x200x128, .f32⟩
  | 49 => ⟨S1024x200x128, .i1⟩
  | 50 => ⟨S_, .f32⟩
  | 51 => ⟨S1024x200x128, .f32⟩
  | 52 => ⟨S1024x200x128, .f32⟩
  | 53 => ⟨S1024x200x128, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S_, .f32⟩
  | 65 => ⟨S64, .f32⟩
  | 66 => ⟨S64, .f32⟩
  | 67 => ⟨S1024x200x1, .i32⟩
  | 68 => ⟨S1024x200x1, .f32⟩
  | 69 => ⟨S1x1x64, .f32⟩
  | 70 => ⟨S1024x200x64, .f32⟩
  | 71 => ⟨S1024x200x64, .f32⟩
  | 72 => ⟨S1024x200x64, .f32⟩
  | 73 => ⟨S_, .f32⟩
  | 74 => ⟨S1024x200x64, .f32⟩
  | 75 => ⟨S1024x200x64, .f32⟩
  | 76 => ⟨S1024x200x64, .f32⟩
  | 77 => ⟨S_, .f32⟩
  | 78 => ⟨S1024x200x64, .f32⟩
  | 79 => ⟨S1024x200x64, .f32⟩
  | 80 => ⟨S_, .f32⟩
  | 81 => ⟨S1024x200x64, .f32⟩
  | 82 => ⟨S1024x200x64, .f32⟩
  | 83 => ⟨S1024x200x64, .f32⟩
  | 84 => ⟨S1024x200x64, .f32⟩
  | 85 => ⟨S_, .f32⟩
  | 86 => ⟨S1024x200x64, .f32⟩
  | 87 => ⟨S1024x200x64, .f32⟩
  | 88 => ⟨S1024x200x64, .f32⟩
  | 89 => ⟨S1024x200x64, .f32⟩
  | 90 => ⟨S_, .f32⟩
  | 91 => ⟨S1024x200x64, .f32⟩
  | 92 => ⟨S1024x200x64, .f32⟩
  | 93 => ⟨S1024x200x64, .f32⟩
  | 94 => ⟨S1024x200x64, .f32⟩
  | 95 => ⟨S1024x200x64, .f32⟩
  | 96 => ⟨S1024x200x64, .f32⟩
  | 97 => ⟨S_, .f32⟩
  | 98 => ⟨S1024x200x64, .f32⟩
  | 99 => ⟨S1024x200x64, .f32⟩
  | 100 => ⟨S1024x200x64, .f32⟩
  | 101 => ⟨S1024x200x64, .f32⟩
  | 102 => ⟨S1024x200x64, .f32⟩
  | 103 => ⟨S1024x200x64, .f32⟩
  | 104 => ⟨S1024x200x64, .f32⟩
  | 105 => ⟨S_, .f32⟩
  | 106 => ⟨S1024x200x64, .f32⟩
  | 107 => ⟨S1024x200x64, .f32⟩
  | 108 => ⟨S1024x200x64, .f32⟩
  | 109 => ⟨S1024x200x64, .f32⟩
  | 110 => ⟨S_, .f32⟩
  | 111 => ⟨S1024x200x64, .f32⟩
  | 112 => ⟨S1024x200x64, .f32⟩
  | 113 => ⟨S_, .f32⟩
  | 114 => ⟨S1024x200x64, .f32⟩
  | 115 => ⟨S1024x200x64, .f32⟩
  | 116 => ⟨S1024x200x64, .f32⟩
  | 117 => ⟨S1024x200x64, .f32⟩
  | 118 => ⟨S_, .f32⟩
  | 119 => ⟨S1024x200x64, .f32⟩
  | 120 => ⟨S1024x200x64, .f32⟩
  | 121 => ⟨S1024x200x64, .f32⟩
  | 122 => ⟨S1024x200x64, .f32⟩
  | 123 => ⟨S1024x200x64, .f32⟩
  | 124 => ⟨S1024x200x64, .f32⟩
  | 125 => ⟨S_, .f32⟩
  | 126 => ⟨S1024x200x64, .f32⟩
  | 127 => ⟨S1024x200x64, .f32⟩
  | _ => ⟨S1024x200, .i32⟩

abbrev hbmTy0_1 (i : Nat) : BufTy := match i % 128 with
  | 0 => ⟨S1024x200x64, .f32⟩
  | 1 => ⟨S1024x200x128, .f32⟩
  | 2 => ⟨S1024x200x128, .f32⟩
  | 3 => ⟨S_, .f32⟩
  | 4 => ⟨S1024x200, .f32⟩
  | 5 => ⟨S1024x200x1, .f32⟩
  | 6 => ⟨S_, .f32⟩
  | 7 => ⟨S1024x200x1, .f32⟩
  | 8 => ⟨S1024x200x1, .f32⟩
  | 9 => ⟨S1024x200x128, .f32⟩
  | 10 => ⟨S1024x200x128, .f32⟩
  | 11 => ⟨S1024x200x128, .f32⟩
  | 12 => ⟨S_, .f32⟩
  | 13 => ⟨S1024x200, .f32⟩
  | 14 => ⟨S1024x200x1, .f32⟩
  | 15 => ⟨S_, .f32⟩
  | 16 => ⟨S1024x200x1, .f32⟩
  | 17 => ⟨S1024x200x1, .f32⟩
  | 18 => ⟨S1024x200x128, .f32⟩
  | 19 => ⟨S1024x200x128, .f32⟩
  | 20 => ⟨S_, .f32⟩
  | 21 => ⟨S1024x200x1, .f32⟩
  | 22 => ⟨S1024x200x1, .f32⟩
  | 23 => ⟨S1024x200x1, .f32⟩
  | 24 => ⟨S1024x200x128, .f32⟩
  | 25 => ⟨S1024x200x128, .f32⟩
  | 26 => ⟨S1x1x128, .f32⟩
  | 27 => ⟨S1024x200x128, .f32⟩
  | 28 => ⟨S1024x200x128, .f32⟩
  | 29 => ⟨S1x1x128, .f32⟩
  | 30 => ⟨S1024x200x128, .f32⟩
  | 31 => ⟨S1024x200x128, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_cst : Ref sig .tc := ⟨.hbm, 55, rfl⟩
abbrev main_v4 : Ref sig .tc := ⟨.hbm, 56, rfl⟩
abbrev main_v5 : Ref sig .tc := ⟨.hbm, 57, rfl⟩
abbrev main_cst_0 : Ref sig .tc := ⟨.hbm, 58, rfl⟩
abbrev main_v6 : Ref sig .tc := ⟨.hbm, 59, rfl⟩
abbrev main_v7 : Ref sig .tc := ⟨.hbm, 60, rfl⟩
abbrev main_cst_1 : Ref sig .tc := ⟨.hbm, 61, rfl⟩
abbrev main_v8 : Ref sig .tc := ⟨.hbm, 62, rfl⟩
abbrev main_v9 : Ref sig .tc := ⟨.hbm, 63, rfl⟩
abbrev main_cst_2 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_cst_3 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_cst_4 : Ref sig .tc := ⟨.hbm, 77, rfl⟩
abbrev main_v21 : Ref sig .tc := ⟨.hbm, 78, rfl⟩
abbrev main_v22 : Ref sig .tc := ⟨.hbm, 79, rfl⟩
abbrev main_cst_5 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_cst_6 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_7 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_cst_8 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_9 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst_10 : Ref sig .tc := ⟨.hbm, 110, rfl⟩
abbrev main_v48 : Ref sig .tc := ⟨.hbm, 111, rfl⟩
abbrev main_v49 : Ref sig .tc := ⟨.hbm, 112, rfl⟩
abbrev main_cst_11 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_cst_12 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_cst_13 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_cst_14 : Ref sig .tc := ⟨.hbm, 131, rfl⟩
abbrev main_v65 : Ref sig .tc := ⟨.hbm, 132, rfl⟩
abbrev main_v66 : Ref sig .tc := ⟨.hbm, 133, rfl⟩
abbrev main_cst_15 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_cst_16 : Ref sig .tc := ⟨.hbm, 140, rfl⟩
abbrev main_v72 : Ref sig .tc := ⟨.hbm, 141, rfl⟩
abbrev main_v73 : Ref sig .tc := ⟨.hbm, 142, rfl⟩
abbrev main_cst_17 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_cst_18 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩

abbrev nD : Nat := 1
abbrev τ : Topo := Topo.v7x

variable {F : FTy → Type} [FloatOps F]
-- ==== Proof.Body.lean ====
/-
  The kernel's body at one grid point, as a program with its repetitions named: four stretches of twenty-five
  chunks, each chunk a function of its number. `chunkVal` is what one chunk computes from the table, the inverse
  frequencies and three rows of integers; `body` is the whole, and `body_eq` says that it is the printed body.
-/
module

public import proofs.«01_k».proof.Proof.Gen.KernelIdeal.Frame

@[expose] public section

noncomputable section

namespace Cert.KernelIdeal.Embed

open Idealize.ShloMosaic Idealize.SL.Sem
open Cert.KernelIdeal.Facts₀

variable {F : FTy → Type} [FloatOps F]

/-! ## One chunk's value -/

/-- The 64×128 array of one number. -/
abbrev splat (w : BitVec 32) : FVec F S64x128 .f32 := broadcast S64x128 (Scalar.ofBits .f32 w : F .f32)

/-- The angles: inverse frequency (rows) times position (columns). -/
def angle (inv : FVec F S64x1 .f32) (p : Vec F S1x1x128 .i32) : FVec F S64x128 .f32 :=
  mulf (broadcastTo S64x128 inv broadcasts_S64x1_S64x128)
    (broadcastTo S64x128 (sitofp .f32 (shapeCast S1x128 p shapeCasts_S1x1x128_S1x128 : IVec S1x128 32) : FVec F S1x128 .f32)
      broadcasts_S1x128_S64x128)

/-- The number of whole turns nearest to an angle. -/
def turns (a : FVec F S64x128 .f32) : FVec F S64x128 .f32 := roundeven (mulf a (splat 0x3E22F983#32))

/-- The angle less its whole turns. -/
def rest (a : FVec F S64x128 .f32) : FVec F S64x128 .f32 :=
  subf (subf a (mulf (turns a) (splat 0x40C80000#32))) (mulf (turns a) (splat 0x3D07ED51#32))

/-- The sine's polynomial at `r`, whose square is `u`. -/
def sinPoly (r u : FVec F S64x128 .f32) : FVec F S64x128 .f32 :=
  mulf (addf (mulf (addf (mulf (addf (mulf (splat 0xB914D094#32) u) (splat 0x3C020041#32)) u) (splat 0xBE29B865#32)) u)
    (splat 0x3F7FE9D4#32)) r

/-- The cosine's polynomial, `u` the square of the reduced angle. -/
def cosPoly (u : FVec F S64x128 .f32) : FVec F S64x128 .f32 :=
  addf (mulf (addf (mulf (addf (mulf (splat 0xBA6B275E#32) u) (splat 0x3D1CA050#32)) u) (splat 0xBEFBF54A#32)) u)
    (splat 0x3F7F435E#32)

/-- The positional encoding of 128 positions: sines above cosines, one column a position. -/
def encode (inv : FVec F S64x1 .f32) (p : Vec F S1x1x128 .i32) : FVec F S128x128 .f32 :=
  concatenate S128x128 0
    [⟨S64x128, sinPoly (rest (angle inv p)) (mulf (rest (angle inv p)) (rest (angle inv p)))⟩,
      ⟨S64x128, cosPoly (mulf (rest (angle inv p)) (rest (angle inv p)))⟩] concatenates_S64x128_S64x128_S128x128_d0

/-- The selector: in each column a one at the row of the value and at the row of the chromosome. -/
def select2 (v c : Vec F S1x1x128 .i32) : FVec F S26x128 .f32 :=
  sitofp .f32 (extui 32 (ori
    (cmpi .eq (iota .tc S26x128 32 [0] iota_S26x128_d0_w32)
      (broadcastTo S26x128 (shapeCast S1x128 v shapeCasts_S1x1x128_S1x128 : IVec S1x128 32) broadcasts_S1x128_S26x128))
    (cmpi .eq (iota .tc S26x128 32 [0] iota_S26x128_d0_w32)
      (broadcastTo S26x128 (addi (shapeCast S1x128 c shapeCasts_S1x1x128_S1x128 : IVec S1x128 32) (broadcast S1x128 2#32))
        broadcasts_S1x128_S26x128))) natLt_1_32)

/-- Embeddings and encoding added, one column a token. -/
def embed (tab : FVec F S128x26 .f32) (inv : FVec F S64x1 .f32) (p v c : Vec F S1x1x128 .i32) : FVec F S128x128 .f32 :=
  addf (matmul dot_S128x26_S26x128_S128x128_1_0_0_1_n_n none tab (select2 v c) (constant S128x128 .f32 0x00000000#32))
    (encode inv p)

/-- The mean of each column. -/
def colMean (x : FVec F S128x128 .f32) : FVec F S1x128 .f32 :=
  divf (shapeCast S1x128 (multiReduction .add [0] S128 x 0x00000000#32 reduces_S128x128_S128 (.inl rfl) rfl) shapeCasts_S128_S1x128)
    (broadcast S1x128 (Scalar.ofBits .f32 0x43000000#32 : F .f32))

/-- Each column less its mean, times the reciprocal root of its variance. -/
def normalize (x : FVec F S128x128 .f32) : FVec F S128x128 .f32 :=
  mulf (subf x (broadcastTo S128x128 (colMean x) broadcasts_S1x128_S128x128))
    (broadcastTo S128x128 (rsqrt (addf (subf (colMean (mulf x x)) (mulf (colMean x) (colMean x)))
      (broadcast S1x128 (Scalar.ofBits .f32 0x3727C5AC#32 : F .f32)))) broadcasts_S1x128_S128x128)

/-- What one chunk stores: 128 rows, one a token. -/
def chunkVal (tab : FVec F S128x26 .f32) (inv : FVec F S64x1 .f32) (p v c : Vec F S1x1x128 .i32) : FVec F S1x128x128 .f32 :=
  shapeCast S1x128x128 (transpose S128x128 [1, 0] (normalize (embed tab inv p v c)) transposes_S128x128_p1_0_S128x128)
    shapeCasts_S128x128_S1x128x128

/-! ## The program -/

/-- Row `k` of a 1×100×128 block is inside it. -/
theorem inbRow {k : ℕ} (h : k < 100) : ∀ a, (![0, k, 0] : Fin 3 → ℕ) a + S1x1x128.size a ≤ S1x100x128.size a := by
  intro a; fin_cases a <;> simp <;> omega

/-- Rows `128 k` on of slot `b` of the scratch are inside it. -/
theorem inbChunk {b k : ℕ} (hb : b < 2) (h : k < 25) :
    ∀ a, (![b, 128 * k, 0] : Fin 3 → ℕ) a + S1x128x128.size a ≤ S2x3200x128.size a := by
  intro a; fin_cases a <;> simp <;> omega

/-- Slot `b` of the scratch is inside it. -/
theorem inbSlot {b : ℕ} (hb : b < 2) : ∀ a, (![b, 0, 0] : Fin 3 → ℕ) a + S1x3200x128.size a ≤ S2x3200x128.size a := by
  intro a; fin_cases a <;> simp <;> omega

/-- Semaphore `b` is one of the two. -/
theorem inbSem {b : ℕ} (hb : b < 2) : ∀ a, (![b] : Fin 1 → ℕ) a + S1.size a ≤ S2.size a := by
  intro a; fin_cases a; simp; omega

section
variable (arg1 arg2 arg3 : Memref sig .tc .vmem S1x100x128 .i32) (arg4 : Memref sig .tc .vmem S128x26 .f32)
  (arg5 : Memref sig .tc .vmem S64x1 .f32) (arg6 : Memref sig .tc .hbm S204800x128 .f32)
  (arg7 : Memref sig .tc .vmem S2x3200x128 .f32) (arg8 : DmaSems sig S2)

/-- One slot of the scratch, as a 3200×128 array. -/
abbrev slot {b : ℕ} (hb : b < 2) : Memref sig .tc .vmem S3200x128 .f32 :=
  (arg7.slice (Rect.unit (s := S2x3200x128) ![b, 0, 0] S1x3200x128.size (inbSlot hb)) (fun _ => rfl)).squeeze S3200x128
    squeezes_S1x3200x128_S3200x128

/-- The semaphore of one slot. -/
abbrev sem {b : ℕ} (hb : b < 2) : DmaSems sig S_ :=
  (arg8.slice (Rect.unit (s := S2) ![b] S1.size (inbSem hb))).squeeze S_ squeezes_S1_S_

/-- 3200 rows of the output. -/
abbrev rows (off : Fin 2 → ℕ) (h : ∀ a, off a + S3200x128.size a ≤ S204800x128.size a) : Memref sig .tc .hbm S3200x128 .f32 :=
  arg6.slice (Rect.unit (s := S204800x128) off S3200x128.size h) (fun _ => rfl)

/-- Wait for the copy out of slot `b` to the given rows. -/
def waitP {b : ℕ} (hb : b < 2) (d : Memref sig .tc .hbm S3200x128 .f32) : Prog (TpuEff nD τ sig (Elt F) Λ₀ .tc) PUnit :=
  Prog.lift (.waitDma2 (sem arg8 hb).sem (slot arg7 hb) d ((View.wordExact_bits rfl).reshape _ _) (View.wordExact_bits rfl))

/-- Start the copy out of slot `b` to the given rows. -/
def startP {b : ℕ} (hb : b < 2) (d : Memref sig .tc .hbm S3200x128 .f32) : Prog (TpuEff nD τ sig (Elt F) Λ₀ .tc) PUnit :=
  Prog.lift (.enqueueDma (slot arg7 hb) (.here d) (.dma (sem arg8 hb).sem) ((View.wordExact_bits rfl).reshape _ _)
    (View.wordExact_bits rfl) ⟨Or.inl rfl, trivial⟩)

/-- Load row `j` of a block of integers. -/
def loadRow (M : Memref sig .tc .vmem S1x100x128 .i32) {j : ℕ} (hj : j < 100) :
    Prog (TpuEff nD τ sig (Elt F) Λ₀ .tc) (Vec F S1x1x128 .i32) :=
  Prog.lift (.load M (Rect.unit (s := S1x100x128) ![0, j, 0] S1x1x128.size (inbRow hj)).toLoadRect (View.loadsAt_vmem h_S1x1x128))

/-- Chunk `k` of a stretch: the tokens of row `j`, stored in slot `b` at rows `128 k` on. -/
def chunkP (tab : FVec F S128x26 .f32) (inv : FVec F S64x1 .f32) {b k j : ℕ} (hb : b < 2) (hk : k < 25) (hj : j < 100) :
    Prog (TpuEff nD τ sig (Elt F) Λ₀ .tc) PUnit := do
  let p ← loadRow arg3 hj
  let v ← loadRow arg1 hj
  let c ← loadRow arg2 hj
  let _ : Vec F S1x128x128 .f32 ← Prog.lift (.load arg7 (Rect.unit (s := S2x3200x128) ![b, 128 * k, 0] S1x128x128.size
    (inbChunk hb hk)).toLoadRect (View.loadsAt_vmem h_S1x128x128))
  Prog.lift (.store arg7 (Rect.unit (s := S2x3200x128) ![b, 128 * k, 0] S1x128x128.size (inbChunk hb hk))
    (chunkVal tab inv p v c) Finset.univ (View.stores_vmem_bits_univ h_S1x128x128 rfl) (.inl rfl))

/-- The last `n` chunks of a stretch whose tokens start at row `base`. -/
def chunksP (tab : FVec F S128x26 .f32) (inv : FVec F S64x1 .f32) {b base : ℕ} (hb : b < 2) (hbase : base + 25 ≤ 100) :
    (n k : ℕ) → k + n ≤ 25 → Prog (TpuEff nD τ sig (Elt F) Λ₀ .tc) PUnit
  | 0, _, _ => pure ⟨⟩
  | n + 1, k, h => do
    chunkP arg1 arg2 arg3 arg7 tab inv (k := k) (j := base + k) hb (by omega) (by omega)
    chunksP tab inv hb hbase n (k + 1) (by omega)

/-- A stretch: wait if the slot's last copy may be pending, fill the slot, start its copy. -/
def stretchP (w : Prog (TpuEff nD τ sig (Elt F) Λ₀ .tc) PUnit) (tab : FVec F S128x26 .f32) (inv : FVec F S64x1 .f32) {b base : ℕ}
    (hb : b < 2) (hbase : base + 25 ≤ 100) (d : Memref sig .tc .hbm S3200x128 .f32) :
    Prog (TpuEff nD τ sig (Elt F) Λ₀ .tc) PUnit := do
  w
  chunksP arg1 arg2 arg3 arg7 tab inv hb hbase 25 0 (by omega)
  startP arg7 arg8 hb d

/-- The whole body. -/
def body (i : grid0.Coords) : Prog (TpuEff nD τ sig (Elt F) Λ₀ .tc) PUnit := do
  let v0 : Vec F S128x26 .f32 ← Prog.lift (.load arg4 (Rect.unit (s := S128x26) ![0, 0] S128x26.size inb_S128x26_S128x26_0_0).toLoadRect
    (View.loadsAt_vmem h_S128x26))
  let v2 : Vec F S64x1 .f32 ← Prog.lift (.load arg5 (Rect.unit (s := S64x1) ![0, 0] S64x1.size inb_S64x1_S64x1_0_0).toLoadRect
    (View.loadsAt_vmem h_S64x1))
  let tab : FVec F S128x26 .f32 := shapeCast S128x26 v0 shapeCasts_S128x26_S128x26
  let inv : FVec F S64x1 .f32 := shapeCast S64x1 v2 shapeCasts_S64x1_S64x1
  stretchP arg1 arg2 arg3 arg7 arg8
    (if h : k0_cond1 i = 1#1 then waitP arg7 arg8 (b := 0) (by omega) (rows arg6 (k0_off1 i) (k0_off1_inb i h)) else pure ⟨⟩)
    tab inv (b := 0) (base := 0) (by omega) (by omega) (rows arg6 (k0_off2 i 0#32) (k0_off2_inb i 0))
  stretchP arg1 arg2 arg3 arg7 arg8
    (if h : k0_cond2 i = 1#1 then waitP arg7 arg8 (b := 1) (by omega) (rows arg6 (k0_off3 i) (k0_off3_inb i h)) else pure ⟨⟩)
    tab inv (b := 1) (base := 25) (by omega) (by omega) (rows arg6 (k0_off2 i 1#32) (k0_off2_inb i 1))
  stretchP arg1 arg2 arg3 arg7 arg8
    (if h : k0_cond3 i = 1#1 then waitP arg7 arg8 (b := 0) (by omega) (rows arg6 (k0_off4 i) (k0_off4_inb i h)) else pure ⟨⟩)
    tab inv (b := 0) (base := 50) (by omega) (by omega) (rows arg6 (k0_off2 i 2#32) (k0_off2_inb i 2))
  stretchP arg1 arg2 arg3 arg7 arg8
    (if h : k0_cond4 i = 1#1 then waitP arg7 arg8 (b := 1) (by omega) (rows arg6 (k0_off5 i) (k0_off5_inb i h)) else pure ⟨⟩)
    tab inv (b := 1) (base := 75) (by omega) (by omega) (rows arg6 (k0_off2 i 3#32) (k0_off2_inb i 3))
  if Scalar.cmpi .ne (Scalar.extui (Scalar.cmpi .eq (BitVec.ofNat 32 (i 0).val) 15#32) : BitVec 32) 0#32 = 1#1 then do
    waitP arg7 arg8 (b := 0) (by omega) (rows arg6 ![198400, 0] inb_S204800x128_S3200x128_198400_0)
    waitP arg7 arg8 (b := 1) (by omega) (rows arg6 ![201600, 0] inb_S204800x128_S3200x128_201600_0)
  else pure ⟨⟩
  pure ⟨⟩

end

end Cert.KernelIdeal.Embed

end
-- ==== Proof.Ring.lean ====
/-
  The kernel's output is written behind: 64 pieces of 3200 rows each, copied in turn out of the two slots of the
  scratch, each copy waited two steps later. This module names the slots, the pieces and the two semaphores, and
  states what is held of them before each step (the library's write-behind ring), the pieces already copied at the
  contents `G` that the output is to have.
-/
module

public import proofs.«01_k».proof.Proof.Body
public import Idealize.ShloMosaic.Lib.Ring.WriteBehind

@[expose] public section

set_option maxRecDepth 16384

noncomputable section

namespace Cert.KernelIdeal.Embed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Gen

variable {F : FTy → Type} [FloatOps F]

local notation "𝕄" => MT nD τ sig Unit (Elt F) ℕ (Pipeline.UD sig nD τ) ℕ

/-- The scratch, whole. -/
abbrev scratch : Memref sig .tc .vmem S2x3200x128 .f32 := Memref.whole cc0_scratch0
/-- The output, whole. -/
abbrev outM : Memref sig .tc .hbm S204800x128 .f32 := Memref.whole main_v15

/-- Rows `3200 u` on of the output are inside it. -/
theorem inbPiece (u : Fin 64) : ∀ a, (![3200 * u.val, 0] : Fin 2 → ℕ) a + S3200x128.size a ≤ S204800x128.size a := by
  have := u.isLt; intro a; fin_cases a <;> simp <;> omega

/-- Slot `g` of the scratch. -/
def tile (g : Fin 2) : Memref sig .tc .vmem S3200x128 .f32 := slot scratch g.isLt
/-- Piece `u` of the output. -/
def piece (u : Fin 64) : Memref sig .tc .hbm S3200x128 .f32 := rows outM ![3200 * u.val, 0] (inbPiece u)
/-- The semaphore that slot `g`'s copies are counted on. -/
def cellA (g : Fin 2) : DmaSems sig S_ := sem cc0_scratch1 g.isLt
/-- The same, as a semaphore's place. -/
abbrev cell (g : Fin 2) : SemLoc sig := SemLoc.dma (cellA g).sem

theorem cell_zero : cell 0 = SemLoc.dma 8 := by decide
theorem cell_one : cell 1 = SemLoc.dma 9 := by decide

/-! ## The slots and the pieces as boxes -/

/-- A slot's box. -/
abbrev tileSet (g : Fin 2) : Finset S2x3200x128.Idx :=
  (Rect.unit (s := S2x3200x128) ![g.val, 0, 0] S1x3200x128.size (inbSlot g.isLt)).set
theorem tile_set (g : Fin 2) : (tile g).view.set = tileSet g := by
  simp only [tile, slot, Memref.view_squeeze, View.set_reshape]; exact View.set_slice_whole _ _
/-- A piece's box. -/
abbrev pieceSet (u : Fin 64) : Finset S204800x128.Idx :=
  (Rect.unit (s := S204800x128) ![3200 * u.val, 0] S3200x128.size (inbPiece u)).set
theorem piece_set (u : Fin 64) : (piece u).view.set = pieceSet u := View.set_slice_whole _ _

/-- An element is in a slot when its first coordinate names it. -/
theorem mem_tileSet (g : Fin 2) (i : S2x3200x128.Idx) : i ∈ tileSet g ↔ (i 0).val = g.val := by
  have h1 : (i 1).val < 3200 := (i 1).isLt
  have h2 : (i 2).val < 128 := (i 2).isLt
  rw [tileSet, Rect.mem_set_unit]
  constructor
  · intro h; have := h 0; simp at this; omega
  · intro h a; fin_cases a <;> simp <;> omega
/-- An element is in a piece when its row is. -/
theorem mem_pieceSet (u : Fin 64) (i : S204800x128.Idx) : i ∈ pieceSet u ↔ 3200 * u.val ≤ (i 0).val ∧ (i 0).val < 3200 * u.val + 3200 := by
  have h1 : (i 1).val < 128 := (i 1).isLt
  rw [pieceSet, Rect.mem_set_unit]
  constructor
  · intro h; have := h 0; simp at this; omega
  · intro h a; fin_cases a <;> simp <;> omega

theorem tile_disjoint (g g' : Fin 2) (h : g ≠ g') : Disjoint (tileSet g) (tileSet g') := by
  rw [Finset.disjoint_left]; intro i hi hi'
  rw [mem_tileSet] at hi hi'
  exact h (Fin.ext (by omega))
theorem tile_cover : (Finset.univ : Finset (Fin 2)).biUnion tileSet = Finset.univ := by
  ext i
  have h0 : (i 0).val < 2 := (i 0).isLt
  simp only [Finset.mem_biUnion, Finset.mem_univ, true_and, iff_true]
  exact ⟨⟨(i 0).val, h0⟩, (mem_tileSet _ i).mpr rfl⟩
theorem piece_disjoint (u u' : Fin 64) (h : u ≠ u') : Disjoint (pieceSet u) (pieceSet u') := by
  rw [Finset.disjoint_left]; intro i hi hi'
  rw [mem_pieceSet] at hi hi'
  exact h (Fin.ext (by omega))
theorem piece_cover : (Finset.univ : Finset (Fin 64)).biUnion pieceSet = Finset.univ := by
  ext i
  have h0 : (i 0).val < 204800 := (i 0).isLt
  simp only [Finset.mem_biUnion, Finset.mem_univ, true_and, iff_true]
  exact ⟨⟨(i 0).val / 3200, by omega⟩, (mem_pieceSet _ i).mpr (by simp only; omega)⟩

/-! ## What is held of them -/

section Families
variable (c : Dev nD)

/-- Slot `g` held at `e`. -/
abbrev tileP (g : Fin 2) (e : Buf (Elt F) ((c : Thread nD τ).loc cc0_scratch0)) : sProp 𝕄 :=
  (tile g).view.loc (c : Thread nD τ) ↦[(tile g).view.set]{fullShare} e
/-- Semaphore `g` at zero. -/
abbrev cellP (g : Fin 2) : sProp 𝕄 := semVal ((c : Thread nD τ), cell g) 0
/-- Piece `u` held at `f`. -/
abbrev pieceP (u : Fin 64) (f : Buf (Elt F) ((c : Thread nD τ).loc main_v15)) : sProp 𝕄 :=
  (piece u).view.loc (c : Thread nD τ) ↦[(piece u).view.set]{fullShare} f

/-- Slot `g` free: its semaphore at zero, its elements at anything. -/
def free (g : Fin 2) : sProp 𝕄 := iprop(cellP c g ∗ ∃ e, tileP c g e)
/-- The copy of slot `g` to piece `u` under way, to leave the piece at `G`. -/
def infl (G : Buf (Elt F) ((c : Thread nD τ).loc main_v15)) (g : Fin 2) (u : Fin 64) : sProp 𝕄 :=
  iprop(∃ e, Transfers.Flight countersEmb (c : Thread nD τ) (cell g) default ((piece u).view.amount (cell g))
    iprop(pieceP c u G ∗ tileP c g e))
/-- Piece `u` not yet written. -/
def ahead (u : Fin 64) : sProp 𝕄 := iprop(∃ f, pieceP (F := F) c u f)
/-- Piece `u` written. -/
def behind (G : Buf (Elt F) ((c : Thread nD τ).loc main_v15)) (u : Fin 64) : sProp 𝕄 := pieceP c u G

/-- The ring before step `p`, the last two copies still under way when `p = 64`. -/
def ringAt (G : Buf (Elt F) ((c : Thread nD τ).loc main_v15)) (p : ℕ) : sProp 𝕄 :=
  Ring.AtB 2 (free c) (infl c G) (ahead c) (behind c G) p
/-- The ring with every copy waited. -/
def ringEnd (G : Buf (Elt F) ((c : Thread nD τ).loc main_v15)) : sProp 𝕄 :=
  Ring.AtBEnd (free c) (behind c G)

theorem tileP_eq (g : Fin 2) (e) : tileP (F := F) c g e = (((c : Thread nD τ).loc cc0_scratch0) ↦[tileSet g]{fullShare} e : sProp 𝕄) := by
  unfold tileP; rw [tile_set]; rfl
theorem pieceP_eq (u : Fin 64) (f) : pieceP (F := F) c u f = (((c : Thread nD τ).loc main_v15) ↦[pieceSet u]{fullShare} f : sProp 𝕄) := by
  unfold pieceP; rw [piece_set]; rfl

/-- The two semaphores at zero. -/
theorem cells_eq : (bigSep Finset.univ (fun g : Fin 2 => cellP (F := F) c g) : sProp 𝕄)
    = iprop(semVal ((c : Thread nD τ), SemLoc.dma 8) 0 ∗ semVal ((c : Thread nD τ), SemLoc.dma 9) 0) := by
  rw [BI.bigSep_eq_bigSepL_of_eq [0, 1] (by decide) (by decide)]
  simp only [BI.bigSepL_cons_cons, BI.bigSepL_singleton, cellP, cell_zero, cell_one]; rfl

/-- The two slots free, semaphores and elements apart. -/
theorem frees_eq : (bigSep Finset.univ (free (F := F) c) : sProp 𝕄)
    = iprop(bigSep Finset.univ (fun g : Fin 2 => cellP (F := F) c g) ∗ bigSep Finset.univ (fun g : Fin 2 => iprop(∃ e, tileP (F := F) c g e))) :=
  BI.bigSep_sep ..

/-- The scratch at anything and the semaphores at zero are the two slots free; -/
theorem frees_in : iprop((∃ f, ((c : Thread nD τ).loc cc0_scratch0) ↦{fullShare} f)
      ∗ (semVal ((c : Thread nD τ), SemLoc.dma 8) 0 ∗ semVal ((c : Thread nD τ), SemLoc.dma 9) 0))
    ⊢ (bigSep Finset.univ (free (F := F) c) : sProp 𝕄) := by
  rw [← cells_eq, frees_eq]
  iintro ⟨HS, HC⟩
  isplitl [HC]; · iexact HC
  iapply (Ring.pieces_split (U := Pipeline.UD sig nD τ) (ℓ := (c : Thread nD τ).loc cc0_scratch0) (q := fullShare) tileSet tile_disjoint tile_cover
    (fun g e => tileP (F := F) c g e) (fun g e => tileP_eq c g e))
  iexact HS
/-- and back. -/
theorem frees_out : (bigSep Finset.univ (free (F := F) c) : sProp 𝕄)
    ⊢ iprop((∃ f, ((c : Thread nD τ).loc cc0_scratch0) ↦{fullShare} f)
      ∗ (semVal ((c : Thread nD τ), SemLoc.dma 8) 0 ∗ semVal ((c : Thread nD τ), SemLoc.dma 9) 0)) := by
  rw [← cells_eq, frees_eq]
  iintro ⟨HC, HS⟩
  isplitl [HS]
  · iapply (Ring.pieces_join (U := Pipeline.UD sig nD τ) (ℓ := (c : Thread nD τ).loc cc0_scratch0) (q := fullShare) tileSet tile_disjoint tile_cover
      (fun g e => tileP (F := F) c g e) (fun g e => tileP_eq c g e) (fun _ => (Elt.nonempty (F := F) .f32).some))
    iexact HS
  iexact HC

/-- The launch's scratch, semaphores and output are the ring before its first step; -/
theorem ring_in (G f : Buf (Elt F) ((c : Thread nD τ).loc main_v15)) :
    iprop((∃ f, ((c : Thread nD τ).loc cc0_scratch0) ↦{fullShare} f)
      ∗ (semVal ((c : Thread nD τ), SemLoc.dma 8) 0 ∗ semVal ((c : Thread nD τ), SemLoc.dma 9) 0)
      ∗ (((c : Thread nD τ).loc main_v15) ↦{fullShare} f)) ⊢ (ringAt c G 0 : sProp 𝕄) := by
  unfold ringAt; rw [Ring.AtB_zero]; unfold Ring.AtB₀
  iintro ⟨HS, HC, HO⟩
  isplitl [HO]
  · unfold ahead
    iapply (Ring.pieces_split (U := Pipeline.UD sig nD τ) (ℓ := (c : Thread nD τ).loc main_v15) (q := fullShare) pieceSet piece_disjoint piece_cover
      (fun u f => pieceP (F := F) c u f) (fun u f => pieceP_eq c u f))
    iexists f; iexact HO
  iapply (frees_in (F := F) c)
  isplitl [HS]; · iexact HS
  iexact HC
/-- and the ring with every copy waited is those again, the output at `G`. -/
theorem ring_out (G : Buf (Elt F) ((c : Thread nD τ).loc main_v15)) :
    (ringEnd c G : sProp 𝕄) ⊢ iprop((∃ f, ((c : Thread nD τ).loc cc0_scratch0) ↦{fullShare} f)
      ∗ (semVal ((c : Thread nD τ), SemLoc.dma 8) 0 ∗ semVal ((c : Thread nD τ), SemLoc.dma 9) 0)
      ∗ (((c : Thread nD τ).loc main_v15) ↦{fullShare} G)) := by
  unfold ringEnd Ring.AtBEnd behind
  rw [show (bigSep Finset.univ (fun u : Fin 64 => pieceP c u G) : sProp 𝕄) = (((c : Thread nD τ).loc main_v15) ↦{fullShare} G) from by
    rw [BI.bigSep_congr fun u _ => pieceP_eq c u G,
      ← pointsTo_biUnion (ℓ := (c : Thread nD τ).loc main_v15) (q := fullShare) (f := G) Finset.univ pieceSet (fun u _ u' _ h => piece_disjoint u u' h), piece_cover]]
  iintro ⟨HO, HF⟩
  ihave HF' := (frees_out (F := F) c) $$ HF
  icases HF' with ⟨HS, HC⟩
  isplitl [HS]; · iexact HS
  isplitl [HC]; · iexact HC
  iexact HO

end Families

end Cert.KernelIdeal.Embed

end
-- ==== Proof.Chunks.lean ====
/-
  One stretch of the kernel's body fills a slot of the scratch with 3200 rows, 25 chunks of 128: what a chunk stores
  in its rows (`chunkOf`), and that after the stretch every chunk's rows hold it (`chunks_wp`).
-/
module

public import proofs.«01_k».proof.Proof.Ring
public import Idealize.ShloMosaic.Lib.Pointwise.Index
public import Idealize.ShloMosaic.Lib.Exec

@[expose] public section

set_option maxRecDepth 16384

noncomputable section

namespace Cert.KernelIdeal.Embed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Gen

variable {F : FTy → Type} [FloatOps F]

local notation "𝕄" => MT nD τ sig Unit (Elt F) ℕ (Pipeline.UD sig nD τ) ℕ

/-! ## The values -/

/-- Row `j` of a block of a hundred rows. -/
def rowOf (x : Vec F S1x100x128 .i32) {j : ℕ} (hj : j < 100) : Vec F S1x1x128 .i32 :=
  View.ld x (Rect.unit (s := S1x100x128) ![0, j, 0] S1x1x128.size (inbRow hj))

/-- What the chunk of row `j` stores, of the table, the inverse frequencies and the blocks of values, chromosomes and positions. -/
def chunkOf (tab : FVec F S128x26 .f32) (inv : FVec F S64x1 .f32) (x1 x2 x3 : Vec F S1x100x128 .i32) {j : ℕ} (hj : j < 100) :
    FVec F S1x128x128 .f32 :=
  chunkVal tab inv (rowOf x3 hj) (rowOf x1 hj) (rowOf x2 hj)

/-- The first `n` chunks of slot `g` are in place, the stretch's rows starting at `base`. -/
def Filled (tab : FVec F S128x26 .f32) (inv : FVec F S64x1 .f32) (x1 x2 x3 : Vec F S1x100x128 .i32) {base : ℕ} (hbase : base + 25 ≤ 100)
    (g : Fin 2) (n : ℕ) (e : S2x3200x128.Idx → Elt F .f32) : Prop :=
  ∀ (k : Fin 25) (l d : Fin 128), k.val < n →
    e (ix3 g ⟨128 * k.val + l.val, by omega⟩ d)
      = chunkOf tab inv x1 x2 x3 (j := base + k.val) (by omega) (ix3 (0 : Fin 1) l d)

section
variable (e : S2x3200x128.Idx → Elt F .f32) {b n : ℕ} (hb : b < 2) (hn : n < 25) (w : S1x128x128.Idx → Elt F .f32)

/-- A chunk's store. -/
abbrev stored : S2x3200x128.Idx → Elt F .f32 :=
  scratch.view.writes (Elt F) e [⟨Rect.unit (s := S2x3200x128) ![b, 128 * n, 0] S1x128x128.size (inbChunk hb hn), w⟩]

/-- The scratch read whole is its contents. -/
theorem read_scratch (f : S2x3200x128.Idx → Elt F .f32) : scratch.view.read (Elt F) f = f := rfl

/-- A chunk's store puts the chunk in its rows. -/
theorem stored_hit (g : Fin 2) (hg : b = g.val) (l d : Fin 128) (r : Fin 3200) (hr : r.val = 128 * n + l.val) :
    stored e hb hn w (ix3 g r d) = w (ix3 (0 : Fin 1) l d) := by
  have h := View.read_writes_cons_hit_of_coords scratch.view e
    (Rect.unit (s := S2x3200x128) ![b, 128 * n, 0] S1x128x128.size (inbChunk hb hn)) w [] (ix3 (0 : Fin 1) l d : S1x128x128.Idx) (ix3 g r d)
    (fun a => match a with
      | ⟨0, _⟩ => (by omega : g.val = b + 1 * 0)
      | ⟨1, _⟩ => (by omega : r.val = 128 * n + 1 * l.val)
      | ⟨2, _⟩ => (by omega : d.val = 0 + 1 * d.val))
  rw [read_scratch] at h
  exact h

/-- A chunk's store leaves the rows before it. -/
theorem stored_miss (g : Fin 2) (d : Fin 128) (r : Fin 3200) (hr : r.val < 128 * n) :
    stored e hb hn w (ix3 g r d) = e (ix3 g r d) := by
  have h := View.read_writes_cons_miss scratch.view e
    ⟨Rect.unit (s := S2x3200x128) ![b, 128 * n, 0] S1x128x128.size (inbChunk hb hn), w⟩ [] (ix3 g r d) (by
      intro hm
      rw [Rect.mem_set_unit] at hm
      have h1 : 128 * n ≤ r.val := (hm (1 : Fin 3)).1
      omega)
  rw [read_scratch, View.writes, read_scratch] at h
  exact h

end

/-- Storing the next chunk puts it in place and leaves the earlier ones. -/
theorem filled_succ (tab : FVec F S128x26 .f32) (inv : FVec F S64x1 .f32) (x1 x2 x3 : Vec F S1x100x128 .i32) {base : ℕ} (hbase : base + 25 ≤ 100)
    (g : Fin 2) {b n : ℕ} (hb : b < 2) (hg : b = g.val) (hn : n < 25) (e : S2x3200x128.Idx → Elt F .f32)
    (h : Filled tab inv x1 x2 x3 hbase g n e) :
    Filled tab inv x1 x2 x3 hbase g (n + 1)
      (stored e hb hn (chunkOf tab inv x1 x2 x3 (j := base + n) (by omega))) := by
  intro k l d hk
  by_cases hkn : k.val = n
  · obtain ⟨k, hk'⟩ := k
    have hkn : k = n := hkn
    subst hkn
    exact stored_hit e hb hn _ g hg l d _ rfl
  · refine (stored_miss e hb hn _ g d _ ?_).trans (h k l d (by omega))
    show 128 * k.val + l.val < 128 * n
    omega

/-! ## The programs -/

section
variable (c : Dev nD) (arg1 arg2 arg3 : Memref sig .tc .vmem S1x100x128 .i32)

/-- The three blocks of integers as the body holds them. -/
abbrev blocks (f1 : Buf (Elt F) (arg1.view.loc (c : Thread nD τ))) (f2 : Buf (Elt F) (arg2.view.loc (c : Thread nD τ)))
    (f3 : Buf (Elt F) (arg3.view.loc (c : Thread nD τ))) : sProp 𝕄 :=
  iprop((arg1.view.loc (c : Thread nD τ) ↦{fullShare} f1) ∗ (arg2.view.loc (c : Thread nD τ) ↦{fullShare} f2)
    ∗ (arg3.view.loc (c : Thread nD τ) ↦{fullShare} f3))

/-- Slot `g`, as held through the whole scratch. -/
theorem tileP_scratch (g : Fin 2) (e) :
    tileP (F := F) c g e = (scratch.view.loc (c : Thread nD τ) ↦[(tile g).view.set]{fullShare} e : sProp 𝕄) := rfl

/-- A chunk's rows are in its slot. -/
theorem chunk_sub {b k : ℕ} (g : Fin 2) (hb : b < 2) (hg : b = g.val) (hk : k < 25) :
    (scratch.access (Rect.unit (s := S2x3200x128) ![b, 128 * k, 0] S1x128x128.size (inbChunk hb hk))).set ⊆ (tile g).view.set := by
  rw [tile_set]
  intro i hi
  rw [show (scratch.access (Rect.unit (s := S2x3200x128) ![b, 128 * k, 0] S1x128x128.size (inbChunk hb hk))).set
      = (Rect.unit (s := S2x3200x128) ![b, 128 * k, 0] S1x128x128.size (inbChunk hb hk)).set from View.set_slice_whole _ _, Rect.mem_set_unit] at hi
  rw [mem_tileSet, ← hg]
  have := hi 0
  simp at this
  omega

/-- One chunk: with the blocks held and the slot held, its first `k` chunks in place, it runs to the same with one more. -/
theorem chunk_wp (tab : FVec F S128x26 .f32) (inv : FVec F S64x1 .f32) (x1 x2 x3 : Vec F S1x100x128 .i32) {b base k : ℕ} (hbase : base + 25 ≤ 100)
    (g : Fin 2) (hb : b < 2) (hg : b = g.val) (hk : k < 25) (hj : base + k < 100)
    (f1 : Buf (Elt F) (arg1.view.loc (c : Thread nD τ))) (f2 : Buf (Elt F) (arg2.view.loc (c : Thread nD τ)))
    (f3 : Buf (Elt F) (arg3.view.loc (c : Thread nD τ)))
    (h1 : arg1.view.read (Elt F) f1 = x1) (h2 : arg2.view.read (Elt F) f2 = x2) (h3 : arg3.view.read (Elt F) f3 = x3)
    (K : PUnit → sProp 𝕄) :
    iprop(blocks c arg1 arg2 arg3 f1 f2 f3 ∗ (∃ e, ⌜Filled tab inv x1 x2 x3 hbase g k e⌝ ∗ tileP c g e)
        ∗ (iprop(blocks c arg1 arg2 arg3 f1 f2 f3 ∗ (∃ e, ⌜Filled tab inv x1 x2 x3 hbase g (k + 1) e⌝ ∗ tileP c g e)) -∗ K ⟨⟩))
      ⊢ wp frame (wpE (defs₀ (F := F)) Variants.none c none) Set.univ
          (chunkP arg1 arg2 arg3 scratch tab inv (k := k) (j := base + k) hb hk hj) K := by
  unfold chunkP loadRow
  simp only [tileP_scratch]
  iintro ⟨⟨H1, H2, H3⟩, ⟨%e, %he, HT⟩, Hk⟩
  iapply (wp_load Variants.none (c : Thread nD τ) none Set.univ (m := arg3) (Finset.subset_univ _)) $$ H3
  iintro H3
  iapply (wp_load Variants.none (c : Thread nD τ) none Set.univ (m := arg1) (Finset.subset_univ _)) $$ H1
  iintro H1
  iapply (wp_load Variants.none (c : Thread nD τ) none Set.univ (m := arg2) (Finset.subset_univ _)) $$ H2
  iintro H2
  iapply (wp_load Variants.none (c : Thread nD τ) none Set.univ (m := scratch)
    (Memref.setOn_subset_of_access_subset (c := (c : Thread nD τ)) (chunk_sub g hb hg hk))) $$ HT
  iintro HT
  iapply (wp_store_writes₀ Variants.none (c : Thread nD τ) none Set.univ (m := scratch) (chunk_sub g hb hg hk)) $$ HT
  iintro HT
  sl_step
  iapply Hk
  isplitl [H1 H2 H3]
  · isplitl [H1]; · iexact H1
    isplitl [H2]; · iexact H2
    iexact H3
  iexists _
  isplitr
  · ipureintro; subst h1 h2 h3; exact filled_succ tab inv _ _ _ hbase g hb hg hk e he
  iexact HT

/-- The last `n` chunks of a stretch. -/
theorem chunks_wp (tab : FVec F S128x26 .f32) (inv : FVec F S64x1 .f32) (x1 x2 x3 : Vec F S1x100x128 .i32) {b base : ℕ} (hbase : base + 25 ≤ 100)
    (g : Fin 2) (hb : b < 2) (hg : b = g.val)
    (f1 : Buf (Elt F) (arg1.view.loc (c : Thread nD τ))) (f2 : Buf (Elt F) (arg2.view.loc (c : Thread nD τ)))
    (f3 : Buf (Elt F) (arg3.view.loc (c : Thread nD τ)))
    (h1 : arg1.view.read (Elt F) f1 = x1) (h2 : arg2.view.read (Elt F) f2 = x2) (h3 : arg3.view.read (Elt F) f3 = x3) :
    ∀ (n k : ℕ) (hk : k + n ≤ 25) (K : PUnit → sProp 𝕄),
    iprop(blocks c arg1 arg2 arg3 f1 f2 f3 ∗ (∃ e, ⌜Filled tab inv x1 x2 x3 hbase g k e⌝ ∗ tileP c g e)
        ∗ (iprop(blocks c arg1 arg2 arg3 f1 f2 f3 ∗ (∃ e, ⌜Filled tab inv x1 x2 x3 hbase g (k + n) e⌝ ∗ tileP c g e)) -∗ K ⟨⟩))
      ⊢ wp frame (wpE (defs₀ (F := F)) Variants.none c none) Set.univ
          (chunksP arg1 arg2 arg3 scratch tab inv hb hbase n k hk) K
  | 0, k, hk, K => by
    unfold chunksP
    iintro ⟨HB, HT, Hk⟩
    sl_step
    iapply Hk
    isplitl [HB]
    · iexact HB
    iexact HT
  | n + 1, k, hk, K => by
    unfold chunksP
    refine exec_bind Variants.none (c : Thread nD τ) none Set.univ _ _ ?_
    iintro ⟨HB, HT, Hk⟩
    iapply (chunk_wp c arg1 arg2 arg3 tab inv x1 x2 x3 hbase g hb hg _ _ f1 f2 f3 h1 h2 h3)
    isplitl [HB]; · iexact HB
    isplitl [HT]; · iexact HT
    iintro ⟨HB, HT⟩
    iapply (chunks_wp tab inv x1 x2 x3 hbase g hb hg f1 f2 f3 h1 h2 h3 n (k + 1) _ K)
    isplitl [HB]; · iexact HB
    isplitl [HT]; · iexact HT
    rw [show k + 1 + n = k + (n + 1) by omega]
    iexact Hk

end

end Cert.KernelIdeal.Embed

end
-- ==== Proof.Stretch.lean ====
/-
  One step of the kernel's write-behind ring: wait for the slot's last copy where there is one, fill the slot, start its
  copy to the output. Step `p` takes the ring from before `p` to before `p + 1` (`step_wp`, `step_wp_early`).
-/
module

public import proofs.«01_k».proof.Proof.Chunks
public import Idealize.ShloMosaic.Lib.Transfers
public import Idealize.ShloMosaic.Lib.QrPanel.StackRows

@[expose] public section

set_option maxRecDepth 16384

noncomputable section

namespace Cert.KernelIdeal.Embed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Gen

variable {F : FTy → Type} [FloatOps F]

local notation "𝕄" => MT nD τ sig Unit (Elt F) ℕ (Pipeline.UD sig nD τ) ℕ

/-! ## What a copy delivers -/

/-- A slot read as the 3200×128 array it is. -/
theorem read_tile (g : Fin 2) (e : S2x3200x128.Idx → Elt F .f32) (r : Fin 3200) (d : Fin 128) :
    (tile g).view.read (Elt F) e (ix2 r d) = e (ix3 g r d) :=
  QrPanel.StackRows.read_row (G := 2) (Tr := 3200) scratch g _ rfl (inbSlot g.isLt) (fun _ => rfl) Gen.squeezes_S1x3200x128_S3200x128 e r d

/-- Where a row of a piece lies in the output. -/
theorem piece_emb (u : Fin 64) (r : Fin 3200) (d : Fin 128) :
    (piece u).view.emb (ix2 r d) = (ix2 ⟨3200 * u.val + r.val, by omega⟩ d : S204800x128.Idx) := by
  show (Rect.unit (s := S204800x128) ![3200 * u.val, 0] S3200x128.size (inbPiece u)).emb (ix2 r d) = _
  funext a
  apply Fin.ext
  rw [Rect.emb_apply]
  match a with
  | ⟨0, _⟩ => show 3200 * u.val + 1 * r.val = 3200 * u.val + r.val; omega
  | ⟨1, _⟩ => show 0 + 1 * d.val = d.val; omega

/-- The rows of piece `u` of `G` are the chunks of a stretch. -/
def Delivers (tab : FVec F S128x26 .f32) (inv : FVec F S64x1 .f32) (x1 x2 x3 : Vec F S1x100x128 .i32) {base : ℕ} (hbase : base + 25 ≤ 100)
    (u : Fin 64) (G : S204800x128.Idx → Elt F .f32) : Prop :=
  ∀ (k : Fin 25) (l d : Fin 128),
    G (ix2 ⟨3200 * u.val + (128 * k.val + l.val), by omega⟩ d) = chunkOf tab inv x1 x2 x3 (j := base + k.val) (by omega) (ix3 (0 : Fin 1) l d)

/-- A filled slot copied to its piece leaves it at `G`. -/
theorem delivered (tab : FVec F S128x26 .f32) (inv : FVec F S64x1 .f32) (x1 x2 x3 : Vec F S1x100x128 .i32) {base : ℕ} (hbase : base + 25 ≤ 100)
    (g : Fin 2) (u : Fin 64) (G f : S204800x128.Idx → Elt F .f32) (e : S2x3200x128.Idx → Elt F .f32)
    (hG : Delivers tab inv x1 x2 x3 hbase u G) (he : Filled tab inv x1 x2 x3 hbase g 25 e) :
    ∀ i ∈ (piece u).view.set, (piece u).view.write (Elt F) f ((tile g).view.read (Elt F) e) Finset.univ i = G i := by
  intro i hi
  obtain ⟨x, -, rfl⟩ := Finset.mem_map.mp hi
  refine (View.write_emb_of_mem (v := (piece u).view) f _ (Finset.mem_univ x)).trans ?_
  show (tile g).view.read (Elt F) e x = _
  obtain ⟨r, d, rfl⟩ : ∃ (r : Fin 3200) (d : Fin 128), x = ix2 r d := ⟨x 0, x 1, eq_ix2 x⟩
  rw [read_tile, piece_emb]
  have hr := r.isLt
  have h1 := he ⟨r.val / 128, by omega⟩ ⟨r.val % 128, by omega⟩ d (by show r.val / 128 < 25; omega)
  have h2 := hG ⟨r.val / 128, by omega⟩ ⟨r.val % 128, by omega⟩ d
  have e1 : (⟨128 * (r.val / 128) + r.val % 128, by omega⟩ : Fin 3200) = r := Fin.ext (Nat.div_add_mod _ _)
  have e2 : (⟨3200 * u.val + (128 * (r.val / 128) + r.val % 128), by omega⟩ : Fin 204800) = ⟨3200 * u.val + r.val, by omega⟩ :=
    Fin.ext (by show 3200 * u.val + (128 * (r.val / 128) + r.val % 128) = _; rw [Nat.div_add_mod])
  simp only [] at h1 h2
  rw [e1] at h1
  rw [e2] at h2
  rw [h1, h2]

/-! ## The transfers -/

section
variable (c : Dev nD) (G : Buf (Elt F) ((c : Thread nD τ).loc main_v15))

/-- What the core owes its waits: nothing, whatever it has waited. -/
abbrev clear : sProp 𝕄 := iprop(∃ W, owes (c : Thread nD τ) 0 W)

/-- Waiting for a slot's copy leaves its piece written and the slot free. -/
theorem wait_wp {b : ℕ} (hb : b < 2) (u : Fin 64) (off : Fin 2 → ℕ) (h : ∀ a, off a + S3200x128.size a ≤ S204800x128.size a) (K : PUnit → sProp 𝕄) :
    iprop(infl c G ⟨b, hb⟩ u ∗ clear c ∗ (iprop(behind c G u ∗ free c ⟨b, hb⟩ ∗ clear c) -∗ K ⟨⟩))
      ⊢ wp frame (wpE (defs₀ (F := F)) Variants.none c none) Set.univ (waitP scratch cc0_scratch1 hb (rows outM off h)) K := by
  unfold waitP infl free behind
  iintro ⟨⟨%e, HF⟩, ⟨%W, HO⟩, Hk⟩
  iapply (Transfers.wp_waitLocal countersEmb Variants.none (c : Thread nD τ) none default (by rfl)) $$ [HF HO]
  · isplitl [HF]; · iexact HF
    iexact HO
  iintro ⟨⟨HP, HT⟩, HV, HO⟩
  sl_step
  iapply Hk
  isplitl [HP]; · iexact HP
  isplitl [HV HT]
  · isplitl [HV]; · iexact HV
    iexists _; iexact HT
  iexists _; iexact HO

/-- A piece's copy counts something. -/
theorem amount_pos (u : Fin 64) (g : Fin 2) : 0 < (piece u).view.amount (cell g) := by
  rw [show (piece u).view.amount (cell g) = (piece 0).view.amount (cell 0) from rfl]
  decide

/-- Starting the copy of a filled slot. -/
theorem start_wp (tab : FVec F S128x26 .f32) (inv : FVec F S64x1 .f32) (x1 x2 x3 : Vec F S1x100x128 .i32) {base : ℕ} (hbase : base + 25 ≤ 100)
    {b : ℕ} (hb : b < 2) (u : Fin 64) (hG : Delivers tab inv x1 x2 x3 hbase u G) (K : PUnit → sProp 𝕄) :
    iprop((∃ e, ⌜Filled tab inv x1 x2 x3 hbase ⟨b, hb⟩ 25 e⌝ ∗ tileP c ⟨b, hb⟩ e) ∗ cellP c ⟨b, hb⟩ ∗ ahead c u ∗ (infl c G ⟨b, hb⟩ u -∗ K ⟨⟩))
      ⊢ wp frame (wpE (defs₀ (F := F)) Variants.none c none) Set.univ (startP scratch cc0_scratch1 hb (piece u)) K := by
  unfold startP ahead
  iintro ⟨⟨%e, %he, HT⟩, HV, ⟨%f, HP⟩, Hk⟩
  iapply (Transfers.wp_dmaLocal countersEmb Variants.none (c : Thread nD τ) none (src := tile ⟨b, hb⟩) (dst := piece u) default
    ((piece u).view.amount (cell ⟨b, hb⟩)) rfl (amount_pos _ _) (Finset.Subset.refl _)) $$ [HT HP HV]
  · isplitl [HT]; · iexact HT
    isplitl [HP]; · iexact HP
    iexact HV
  iintro HF
  sl_step
  iapply Hk
  unfold infl
  iexists e
  rw [ReadAs.apply_same, pointsTo_congr (delivered tab inv x1 x2 x3 hbase ⟨b, hb⟩ u G f e hG he)]
  iexact HF

/-- Filling a free slot and starting its copy. -/
theorem fill_wp (arg1 arg2 arg3 : Memref sig .tc .vmem S1x100x128 .i32)
    (tab : FVec F S128x26 .f32) (inv : FVec F S64x1 .f32) (x1 x2 x3 : Vec F S1x100x128 .i32) {base : ℕ} (hbase : base + 25 ≤ 100)
    {b : ℕ} (hb : b < 2) (u : Fin 64) (hG : Delivers tab inv x1 x2 x3 hbase u G)
    (f1 : Buf (Elt F) (arg1.view.loc (c : Thread nD τ))) (f2 : Buf (Elt F) (arg2.view.loc (c : Thread nD τ)))
    (f3 : Buf (Elt F) (arg3.view.loc (c : Thread nD τ)))
    (h1 : arg1.view.read (Elt F) f1 = x1) (h2 : arg2.view.read (Elt F) f2 = x2) (h3 : arg3.view.read (Elt F) f3 = x3)
    (K : PUnit → sProp 𝕄) :
    iprop(blocks c arg1 arg2 arg3 f1 f2 f3 ∗ free c ⟨b, hb⟩ ∗ ahead c u ∗ (iprop(blocks c arg1 arg2 arg3 f1 f2 f3 ∗ infl c G ⟨b, hb⟩ u) -∗ K ⟨⟩))
      ⊢ wp frame (wpE (defs₀ (F := F)) Variants.none c none) Set.univ
          (chunksP arg1 arg2 arg3 scratch tab inv hb hbase 25 0 (by omega) >>= fun _ => startP scratch cc0_scratch1 hb (piece u)) K := by
  refine exec_bind Variants.none (c : Thread nD τ) none Set.univ _ _ ?_
  unfold free
  iintro ⟨HB, ⟨HV, ⟨%e, HT⟩⟩, HA, Hk⟩
  iapply (chunks_wp c arg1 arg2 arg3 tab inv x1 x2 x3 hbase ⟨b, hb⟩ hb rfl f1 f2 f3 h1 h2 h3 25 0 _)
  isplitl [HB]; · iexact HB
  isplitl [HT]
  · iexists e
    isplitr
    · ipureintro; intro k l d hk; exact absurd hk (Nat.not_lt_zero _)
    iexact HT
  iintro ⟨HB, HT⟩
  iapply (start_wp c G tab inv x1 x2 x3 hbase hb u hG K)
  isplitl [HT]; · iexact HT
  isplitl [HV]; · iexact HV
  isplitl [HA]; · iexact HA
  iintro HI
  iapply Hk
  isplitl [HB]; · iexact HB
  iexact HI

end

end Cert.KernelIdeal.Embed

end
-- ==== Proof.Step.lean ====
/-
  The steps of the kernel's write-behind ring. Step `p` waits for the copy of step `p - 2` (the first two steps have
  none to wait for), fills its slot and starts its copy, and takes the ring from before `p` to before `p + 1`; after
  step 63 the last two copies are waited.
-/
module

public import proofs.«01_k».proof.Proof.Stretch
public import Idealize.ShloMosaic.Lib.Ring.Trips

@[expose] public section

set_option maxRecDepth 16384

noncomputable section

namespace Cert.KernelIdeal.Embed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Gen

variable {F : FTy → Type} [FloatOps F]

local notation "𝕄" => MT nD τ sig Unit (Elt F) ℕ (Pipeline.UD sig nD τ) ℕ

/-- Slot `p % 2` is the ring's slot of step `p`. -/
theorem slot_of {b p : ℕ} (hb : b < 2) (hbp : b = p % 2) : Ring.sl 2 p = ⟨b, hb⟩ :=
  Fin.ext (by rw [Ring.sl_val]; exact hbp.symm)

section
variable (c : Dev nD) (G : Buf (Elt F) ((c : Thread nD τ).loc main_v15))
  (arg1 arg2 arg3 : Memref sig .tc .vmem S1x100x128 .i32)
  (tab : FVec F S128x26 .f32) (inv : FVec F S64x1 .f32) (x1 x2 x3 : Vec F S1x100x128 .i32) {base : ℕ} (hbase : base + 25 ≤ 100)
  (f1 : Buf (Elt F) (arg1.view.loc (c : Thread nD τ))) (f2 : Buf (Elt F) (arg2.view.loc (c : Thread nD τ)))
  (f3 : Buf (Elt F) (arg3.view.loc (c : Thread nD τ)))
  (h1 : arg1.view.read (Elt F) f1 = x1) (h2 : arg2.view.read (Elt F) f2 = x2) (h3 : arg3.view.read (Elt F) f3 = x3)

/-- What a step holds besides the ring: the three blocks, and no debt. -/
abbrev around (f1 : Buf (Elt F) (arg1.view.loc (c : Thread nD τ))) (f2 : Buf (Elt F) (arg2.view.loc (c : Thread nD τ)))
    (f3 : Buf (Elt F) (arg3.view.loc (c : Thread nD τ))) : sProp 𝕄 :=
  iprop(blocks c arg1 arg2 arg3 f1 f2 f3 ∗ clear c)

include h1 h2 h3 in
/-- Step 0: nothing to wait for. -/
theorem step_zero (p : ℕ) (hp0 : p = 0) {b : ℕ} (hb : b < 2) (hbp : b = p % 2) (u : Fin 64) (hu : u.val = p)
    (hG : Delivers tab inv x1 x2 x3 hbase u G) (K : PUnit → sProp 𝕄) :
    iprop(ringAt c G p ∗ around c arg1 arg2 arg3 f1 f2 f3 ∗ (iprop(ringAt c G (p + 1) ∗ around c arg1 arg2 arg3 f1 f2 f3) -∗ K ⟨⟩))
      ⊢ wp frame (wpE (defs₀ (F := F)) Variants.none c none) Set.univ
          (stretchP arg1 arg2 arg3 scratch cc0_scratch1 (pure ⟨⟩) tab inv hb hbase (piece u)) K := by
  have hbk : Ring.bk 64 p = u := Fin.ext ((Ring.bk_val (by omega)).trans hu.symm)
  unfold ringAt
  rw [Ring.AtB2_zero' 2 _ _ _ _ p hp0, Ring.AtB22_next_zero' _ _ _ _ p hp0, hbk, slot_of hb hbp]
  unfold stretchP
  refine exec_bind Variants.none (c : Thread nD τ) none Set.univ _ _ ?_
  iintro ⟨⟨⟨HA, HR⟩, HF, HO⟩, ⟨HB, HC⟩, Hk⟩
  sl_step
  iapply (fill_wp c G arg1 arg2 arg3 tab inv x1 x2 x3 hbase hb u hG f1 f2 f3 h1 h2 h3 K)
  isplitl [HB]; · iexact HB
  isplitl [HF]; · iexact HF
  isplitl [HA]; · iexact HA
  iintro ⟨HB, HI⟩
  iapply Hk
  isplitl [HR HO HI]
  · isplitl [HR]; · iexact HR
    isplitl [HO]; · iexact HO
    iexact HI
  isplitl [HB]; · iexact HB
  iexact HC

include h1 h2 h3 in
/-- Step 1: nothing to wait for. -/
theorem step_one (p : ℕ) (hp1 : p = 1) {b : ℕ} (hb : b < 2) (hbp : b = p % 2) (u : Fin 64) (hu : u.val = p)
    (hG : Delivers tab inv x1 x2 x3 hbase u G) (K : PUnit → sProp 𝕄) :
    iprop(ringAt c G p ∗ around c arg1 arg2 arg3 f1 f2 f3 ∗ (iprop(ringAt c G (p + 1) ∗ around c arg1 arg2 arg3 f1 f2 f3) -∗ K ⟨⟩))
      ⊢ wp frame (wpE (defs₀ (F := F)) Variants.none c none) Set.univ
          (stretchP arg1 arg2 arg3 scratch cc0_scratch1 (pure ⟨⟩) tab inv hb hbase (piece u)) K := by
  have hbk : Ring.bk 64 p = u := Fin.ext ((Ring.bk_val (by omega)).trans hu.symm)
  unfold ringAt
  rw [Ring.AtB22_one' _ _ _ _ p hp1 (by decide), Ring.AtB22_next_one' _ _ _ _ p hp1, hbk, slot_of hb hbp]
  unfold stretchP
  refine exec_bind Variants.none (c : Thread nD τ) none Set.univ _ _ ?_
  iintro ⟨⟨⟨HA, HR⟩, HF, HO⟩, ⟨HB, HC⟩, Hk⟩
  sl_step
  iapply (fill_wp c G arg1 arg2 arg3 tab inv x1 x2 x3 hbase hb u hG f1 f2 f3 h1 h2 h3 K)
  isplitl [HB]; · iexact HB
  isplitl [HF]; · iexact HF
  isplitl [HA]; · iexact HA
  iintro ⟨HB, HI⟩
  iapply Hk
  isplitl [HR HO HI]
  · isplitl [HR]; · iexact HR
    isplitl [HO]; · iexact HO
    iexact HI
  isplitl [HB]; · iexact HB
  iexact HC

include h1 h2 h3 in
/-- A later step: wait for the copy of two steps before. -/
theorem step_later (p : ℕ) (hp2 : 2 ≤ p) {b : ℕ} (hb : b < 2) (hbp : b = p % 2) (u : Fin 64) (hu : u.val = p)
    (off : Fin 2 → ℕ) (h : ∀ a, off a + S3200x128.size a ≤ S204800x128.size a)
    (hG : Delivers tab inv x1 x2 x3 hbase u G) (K : PUnit → sProp 𝕄) :
    iprop(ringAt c G p ∗ around c arg1 arg2 arg3 f1 f2 f3 ∗ (iprop(ringAt c G (p + 1) ∗ around c arg1 arg2 arg3 f1 f2 f3) -∗ K ⟨⟩))
      ⊢ wp frame (wpE (defs₀ (F := F)) Variants.none c none) Set.univ
          (stretchP arg1 arg2 arg3 scratch cc0_scratch1 (waitP scratch cc0_scratch1 hb (rows outM off h)) tab inv hb hbase (piece u)) K := by
  have hbk : Ring.bk 64 p = u := Fin.ext ((Ring.bk_val (by omega)).trans hu.symm)
  unfold ringAt
  rw [Ring.AtB22_here _ _ _ _ p hp2 (by omega), Ring.AtB22_next _ _ _ _ p hp2 (by omega), hbk, slot_of hb hbp]
  unfold stretchP
  refine exec_bind Variants.none (c : Thread nD τ) none Set.univ _ _ ?_
  iintro ⟨⟨⟨HA, HR⟩, HD, HW, HO⟩, ⟨HB, HC⟩, Hk⟩
  iapply (wait_wp c G hb (Ring.bk 64 (p - 2)) off h _)
  isplitl [HW]; · iexact HW
  isplitl [HC]; · iexact HC
  iintro ⟨HN, HF, HC⟩
  iapply (fill_wp c G arg1 arg2 arg3 tab inv x1 x2 x3 hbase hb u hG f1 f2 f3 h1 h2 h3 K)
  isplitl [HB]; · iexact HB
  isplitl [HF]; · iexact HF
  isplitl [HA]; · iexact HA
  iintro ⟨HB, HI⟩
  iapply Hk
  isplitl [HR HD HN HO HI]
  · isplitl [HR]; · iexact HR
    isplitl [HN HD]
    · isplitl [HN]; · iexact HN
      iexact HD
    isplitl [HO]; · iexact HO
    iexact HI
  isplitl [HB]; · iexact HB
  iexact HC

end

/-- The last two copies waited. -/
theorem drain_wp (c : Dev nD) (G : Buf (Elt F) ((c : Thread nD τ).loc main_v15)) (off off' : Fin 2 → ℕ) (h : ∀ a, off a + S3200x128.size a ≤ S204800x128.size a)
    (h' : ∀ a, off' a + S3200x128.size a ≤ S204800x128.size a) (K : PUnit → sProp 𝕄) :
    iprop(ringAt c G 64 ∗ clear c ∗ (iprop(ringEnd c G ∗ clear c) -∗ K ⟨⟩))
      ⊢ wp frame (wpE (defs₀ (F := F)) Variants.none c none) Set.univ
          (waitP scratch cc0_scratch1 (b := 0) (by omega) (rows outM off h) >>= fun _ =>
            waitP scratch cc0_scratch1 (b := 1) (by omega) (rows outM off' h') >>= fun _ => pure ⟨⟩) K := by
  unfold ringAt ringEnd
  rw [Ring.AtB22_end' _ _ _ _ 64 rfl (by decide), Ring.AtB22_epilogue' (NB := 64) _ _ 64 rfl (by decide),
    slot_of (p := 64) (b := 0) (by omega) rfl, slot_of (p := 64 + 1) (b := 1) (by omega) rfl]
  refine exec_bind Variants.none (c : Thread nD τ) none Set.univ _ _ ?_
  iintro ⟨⟨HD, HI, HJ⟩, HC, Hk⟩
  iapply (wait_wp c G (b := 0) _ (Ring.bk 64 (64 - 2)) off h _)
  isplitl [HI]; · iexact HI
  isplitl [HC]; · iexact HC
  iintro ⟨HP, HF, HC⟩
  iapply (exec_bind Variants.none (c : Thread nD τ) none Set.univ _ _ (wait_wp c G (b := 1) _ (Ring.bk 64 (64 - 1)) off' h' _))
  isplitl [HJ]; · iexact HJ
  isplitl [HC]; · iexact HC
  iintro ⟨HQ, HE, HC⟩
  sl_step
  iapply Hk
  isplitl [HD HP HQ HF HE]
  · isplitl [HD HP HQ]
    · isplitl [HP]; · iexact HP
      isplitl [HQ]; · iexact HQ
      iexact HD
    isplitl [HF]; · iexact HF
    iexact HE
  iexact HC

end Cert.KernelIdeal.Embed

end
-- ==== Proof.Point.lean ====
/-
  One grid point of the kernel: its four steps of the write-behind ring, and at the last point the two waits that end it
  (`body_wp`).
-/
module

public import proofs.«01_k».proof.Proof.Step

@[expose] public section

set_option maxRecDepth 16384

noncomputable section

namespace Cert.KernelIdeal.Embed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Gen

variable {F : FTy → Type} [FloatOps F]

local notation "𝕄" => MT nD τ sig Unit (Elt F) ℕ (Pipeline.UD sig nD τ) ℕ

/-- The table as the body uses it. -/
def tabOf (x : Vec F S128x26 .f32) : FVec F S128x26 .f32 :=
  shapeCast S128x26 (View.ld x (Rect.unit (s := S128x26) ![0, 0] S128x26.size Facts₀.inb_S128x26_S128x26_0_0)) Facts₀.shapeCasts_S128x26_S128x26
/-- The inverse frequencies as the body uses them. -/
def invOf (x : Vec F S64x1 .f32) : FVec F S64x1 .f32 :=
  shapeCast S64x1 (View.ld x (Rect.unit (s := S64x1) ![0, 0] S64x1.size Facts₀.inb_S64x1_S64x1_0_0)) Facts₀.shapeCasts_S64x1_S64x1

/-! ## The conditions and the offsets, by the point -/

/-- A point's coordinate. -/
abbrev pt (n : Fin 16) : grid0.Coords := fun | 0 => n
theorem eq_pt (i : grid0.Coords) : i = pt (i 0) := funext fun a => by fin_cases a; rfl

theorem cond1_pt : ∀ n : Fin 16, (k0_cond1 (pt n) = 1#1) ↔ n ≠ 0 := by decide +kernel
theorem cond2_pt : ∀ n : Fin 16, (k0_cond2 (pt n) = 1#1) ↔ n ≠ 0 := by decide +kernel
theorem cond3_pt : ∀ n : Fin 16, k0_cond3 (pt n) = 1#1 := by decide +kernel
theorem cond4_pt : ∀ n : Fin 16, k0_cond4 (pt n) = 1#1 := by decide +kernel
theorem off2_pt : ∀ (n : Fin 16) (s : Fin 4), k0_off2 (pt n) (BitVec.ofNat 32 s.val) = ![3200 * (4 * n.val + s.val), 0] := by decide +kernel
theorem last_pt : ∀ n : Fin 16, (Scalar.cmpi .ne (Scalar.extui (Scalar.cmpi .eq (BitVec.ofNat 32 n.val) 15#32) : BitVec 32) 0#32 = 1#1) ↔ n.val = 15 := by
  decide +kernel

/-- The ring before grid point `n`; after the last, every copy waited. -/
def ringBefore (c : Dev nD) (G : Buf (Elt F) ((c : Thread nD τ).loc main_v15)) (n : ℕ) : sProp 𝕄 :=
  if n < 16 then ringAt c G (4 * n) else ringEnd c G

section
variable (c : Dev nD) (G : Buf (Elt F) ((c : Thread nD τ).loc main_v15))
  (arg1 arg2 arg3 : Memref sig .tc .vmem S1x100x128 .i32)
  (tab : FVec F S128x26 .f32) (inv : FVec F S64x1 .f32) (x1 x2 x3 : Vec F S1x100x128 .i32)
  (f1 : Buf (Elt F) (arg1.view.loc (c : Thread nD τ))) (f2 : Buf (Elt F) (arg2.view.loc (c : Thread nD τ)))
  (f3 : Buf (Elt F) (arg3.view.loc (c : Thread nD τ)))
  (h1 : arg1.view.read (Elt F) f1 = x1) (h2 : arg2.view.read (Elt F) f2 = x2) (h3 : arg3.view.read (Elt F) f3 = x3)

include h1 h2 h3 in
/-- A step, whichever: with no wait at the first two and one at the others. -/
theorem step_wp {base : ℕ} (hbase : base + 25 ≤ 100) (p : ℕ) {b : ℕ} (hb : b < 2) (hbp : b = p % 2) (u : Fin 64) (hu : u.val = p)
    (w : Prog (TpuEff nD τ sig (Elt F) Λ₀ .tc) PUnit) (d : Memref sig .tc .hbm S3200x128 .f32) (hd : d = piece u)
    (hw : (p < 2 ∧ w = pure ⟨⟩) ∨ (2 ≤ p ∧ ∃ off h, w = waitP scratch cc0_scratch1 hb (rows outM off h)))
    (hG : Delivers tab inv x1 x2 x3 hbase u G) (K : PUnit → sProp 𝕄) :
    iprop(ringAt c G p ∗ around c arg1 arg2 arg3 f1 f2 f3 ∗ (iprop(ringAt c G (p + 1) ∗ around c arg1 arg2 arg3 f1 f2 f3) -∗ K ⟨⟩))
      ⊢ wp frame (wpE (defs₀ (F := F)) Variants.none c none) Set.univ
          (stretchP arg1 arg2 arg3 scratch cc0_scratch1 w tab inv hb hbase d) K := by
  subst hd
  rcases hw with ⟨hp, rfl⟩ | ⟨hp, off, h, rfl⟩
  · rcases (by omega : p = 0 ∨ p = 1) with h0 | h0
    · exact step_zero c G arg1 arg2 arg3 tab inv x1 x2 x3 hbase f1 f2 f3 h1 h2 h3 p h0 hb hbp u hu hG K
    · exact step_one c G arg1 arg2 arg3 tab inv x1 x2 x3 hbase f1 f2 f3 h1 h2 h3 p h0 hb hbp u hu hG K
  · exact step_later c G arg1 arg2 arg3 tab inv x1 x2 x3 hbase f1 f2 f3 h1 h2 h3 p hp hb hbp u hu off h hG K

/-- The rows that step `s` of point `n` copies to. -/
theorem dst_pt (n : Fin 16) (s : Fin 4) (off : Fin 2 → ℕ) (ho : off = k0_off2 (pt n) (BitVec.ofNat 32 s.val))
    (h : ∀ a, off a + S3200x128.size a ≤ S204800x128.size a) :
    rows outM off h = piece ⟨4 * n.val + s.val, by omega⟩ :=
  Memref.slice_unit_congr outM (ho.trans (off2_pt n s)) _ _ _ (fun _ => rfl)

/-- The first two steps of a point wait exactly when an earlier point ran. -/
theorem wait_early (n : Fin 16) (s : ℕ) {cond : BitVec 1} (hc : (cond = 1#1) ↔ n ≠ 0) (hs : s < 2) {b : ℕ} (hb : b < 2)
    (off : Fin 2 → ℕ) (h : cond = 1#1 → ∀ a, off a + S3200x128.size a ≤ S204800x128.size a) :
    (4 * n.val + s < 2 ∧ (if hh : cond = 1#1 then waitP scratch cc0_scratch1 hb (rows outM off (h hh)) else pure ⟨⟩ : Prog (TpuEff nD τ sig (Elt F) Λ₀ .tc) PUnit) = pure ⟨⟩)
    ∨ (2 ≤ 4 * n.val + s ∧ ∃ off' h', (if hh : cond = 1#1 then waitP scratch cc0_scratch1 hb (rows outM off (h hh)) else pure ⟨⟩ : Prog (TpuEff nD τ sig (Elt F) Λ₀ .tc) PUnit)
      = waitP scratch cc0_scratch1 hb (rows outM off' h')) := by
  by_cases hn : n = 0
  · subst hn
    exact Or.inl ⟨by simpa using hs, dif_neg fun h => hc.mp h rfl⟩
  · have : n.val ≠ 0 := fun h => hn (Fin.ext h)
    exact Or.inr ⟨by omega, off, h (hc.mpr hn), dif_pos (hc.mpr hn)⟩

/-- The last two steps of a point always wait. -/
theorem wait_always {p : ℕ} (hp : 2 ≤ p) {cond : BitVec 1} (hc : cond = 1#1) {b : ℕ} (hb : b < 2)
    (off : Fin 2 → ℕ) (h : cond = 1#1 → ∀ a, off a + S3200x128.size a ≤ S204800x128.size a) :
    (p < 2 ∧ (if hh : cond = 1#1 then waitP scratch cc0_scratch1 hb (rows outM off (h hh)) else pure ⟨⟩ : Prog (TpuEff nD τ sig (Elt F) Λ₀ .tc) PUnit) = pure ⟨⟩)
    ∨ (2 ≤ p ∧ ∃ off' h', (if hh : cond = 1#1 then waitP scratch cc0_scratch1 hb (rows outM off (h hh)) else pure ⟨⟩ : Prog (TpuEff nD τ sig (Elt F) Λ₀ .tc) PUnit)
      = waitP scratch cc0_scratch1 hb (rows outM off' h')) :=
  Or.inr ⟨hp, off, h hc, dif_pos hc⟩

/-- What a point holds besides the ring. -/
abbrev held (arg4 : Memref sig .tc .vmem S128x26 .f32) (arg5 : Memref sig .tc .vmem S64x1 .f32)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) : sProp 𝕄 :=
  iprop(around c arg1 arg2 arg3 f1 f2 f3 ∗ (arg4.view.loc (c : Thread nD τ) ↦{fullShare} f4) ∗ (arg5.view.loc (c : Thread nD τ) ↦{fullShare} f5))

set_option maxHeartbeats 4000000 in
include h1 h2 h3 in
/-- A grid point takes the ring from before it to after it. -/
theorem body_wp (n : Fin 16) (arg4 : Memref sig .tc .vmem S128x26 .f32) (arg5 : Memref sig .tc .vmem S64x1 .f32)
    (x4 : Vec F S128x26 .f32) (x5 : Vec F S64x1 .f32)
    (f4 : Buf (Elt F) (arg4.view.loc (c : Thread nD τ))) (f5 : Buf (Elt F) (arg5.view.loc (c : Thread nD τ)))
    (h4 : arg4.view.read (Elt F) f4 = x4) (h5 : arg5.view.read (Elt F) f5 = x5)
    (hG : ∀ s : Fin 4, Delivers (tabOf x4) (invOf x5) x1 x2 x3 (base := 25 * s.val) (by omega) ⟨4 * n.val + s.val, by omega⟩ G)
    (K : PUnit → sProp 𝕄) :
    iprop(ringBefore c G n.val ∗ held c arg1 arg2 arg3 arg4 arg5 f1 f2 f3 f4 f5
        ∗ (iprop(ringBefore c G (n.val + 1) ∗ held c arg1 arg2 arg3 arg4 arg5 f1 f2 f3 f4 f5) -∗ K ⟨⟩))
      ⊢ wp frame (wpE (defs₀ (F := F)) Variants.none c none) Set.univ
          (body arg1 arg2 arg3 arg4 arg5 outM scratch cc0_scratch1 (pt n)) K := by
  have hn := n.isLt
  unfold ringBefore
  rw [if_pos hn]
  unfold body
  subst h4 h5
  iintro ⟨HR, ⟨HA, H4, H5⟩, Hk⟩
  iapply (wp_load Variants.none (c : Thread nD τ) none Set.univ (m := arg4) (Finset.subset_univ _)) $$ H4
  iintro H4
  iapply (wp_load Variants.none (c : Thread nD τ) none Set.univ (m := arg5) (Finset.subset_univ _)) $$ H5
  iintro H5
  iapply (exec_bind Variants.none (c : Thread nD τ) none Set.univ _ _ (step_wp c G arg1 arg2 arg3 (tabOf (arg4.view.read (Elt F) f4))
    (invOf (arg5.view.read (Elt F) f5)) x1 x2 x3 f1 f2 f3 h1 h2 h3 (base := 0) (by omega) (4 * n.val) (b := 0) (by omega) (by omega)
    ⟨4 * n.val + (0 : Fin 4).val, by omega⟩ rfl _ _ (dst_pt n 0 _ rfl _) (wait_early n 0 (cond1_pt n) (by omega) _ _ _) (hG 0) _))
  isplitl [HR]; · iexact HR
  isplitl [HA]; · iexact HA
  iintro ⟨HR, HA⟩
  iapply (exec_bind Variants.none (c : Thread nD τ) none Set.univ _ _ (step_wp c G arg1 arg2 arg3 (tabOf (arg4.view.read (Elt F) f4))
    (invOf (arg5.view.read (Elt F) f5)) x1 x2 x3 f1 f2 f3 h1 h2 h3 (base := 25) (by omega) (4 * n.val + 1) (b := 1) (by omega) (by omega)
    ⟨4 * n.val + (1 : Fin 4).val, by omega⟩ rfl _ _ (dst_pt n 1 _ rfl _) (wait_early n 1 (cond2_pt n) (by omega) _ _ _) (hG 1) _))
  isplitl [HR]; · iexact HR
  isplitl [HA]; · iexact HA
  iintro ⟨HR, HA⟩
  iapply (exec_bind Variants.none (c : Thread nD τ) none Set.univ _ _ (step_wp c G arg1 arg2 arg3 (tabOf (arg4.view.read (Elt F) f4))
    (invOf (arg5.view.read (Elt F) f5)) x1 x2 x3 f1 f2 f3 h1 h2 h3 (base := 50) (by omega) (4 * n.val + 2) (b := 0) (by omega) (by omega)
    ⟨4 * n.val + (2 : Fin 4).val, by omega⟩ rfl _ _ (dst_pt n 2 _ rfl _) (wait_always (by omega) (cond3_pt n) _ _ _) (hG 2) _))
  isplitl [HR]; · iexact HR
  isplitl [HA]; · iexact HA
  iintro ⟨HR, HA⟩
  iapply (exec_bind Variants.none (c : Thread nD τ) none Set.univ _ _ (step_wp c G arg1 arg2 arg3 (tabOf (arg4.view.read (Elt F) f4))
    (invOf (arg5.view.read (Elt F) f5)) x1 x2 x3 f1 f2 f3 h1 h2 h3 (base := 75) (by omega) (4 * n.val + 3) (b := 1) (by omega) (by omega)
    ⟨4 * n.val + (3 : Fin 4).val, by omega⟩ rfl _ _ (dst_pt n 3 _ rfl _) (wait_always (by omega) (cond4_pt n) _ _ _) (hG 3) _))
  isplitl [HR]; · iexact HR
  isplitl [HA]; · iexact HA
  iintro ⟨HR, ⟨HB, HC⟩⟩
  by_cases h15 : n.val = 15
  · simp only [if_pos ((last_pt n).mpr h15)]
    iapply (drain_wp c G _ _ _ _ K)
    rw [show 4 * n.val + 3 + 1 = 64 by omega, if_neg (show ¬ n.val + 1 < 16 by omega)]
    isplitl [HR]; · iexact HR
    isplitl [HC]; · iexact HC
    iintro ⟨HR, HC⟩
    iapply Hk
    isplitl [HR]; · iexact HR
    isplitl [HB HC]
    · isplitl [HB]; · iexact HB
      iexact HC
    isplitl [H4]; · iexact H4
    iexact H5
  · simp only [if_neg (mt (last_pt n).mp h15)]
    rw [if_pos (show n.val + 1 < 16 by omega), show 4 * (n.val + 1) = 4 * n.val + 3 + 1 by omega]
    sl_step
    iapply Hk
    isplitl [HR]
    · iexact HR
    isplitl [HB HC]
    · isplitl [HB]; · iexact HB
      iexact HC
    isplitl [H4]; · iexact H4
    iexact H5

end

end Cert.KernelIdeal.Embed

end
-- ==== Proof.Target.lean ====
/-
  What the kernel's launch leaves in its output: row `r` is row `r % 128` of the chunk of row `r / 128 % 100` of the
  blocks of grid point `r / 12800` (`outVal`); and what the grid's steps deliver are pieces of it.
-/
module

public import proofs.«01_k».proof.Proof.Point
public import proofs.«01_k».proof.Proof.Gen.KernelIdeal.Frame

@[expose] public section

set_option maxRecDepth 16384

noncomputable section

namespace Cert.KernelIdeal.Embed

open Idealize.ShloMosaic Idealize.ShloMosaic.TcCoe
open Cert.KernelIdeal.Gen

variable {F : FTy → Type} [FloatOps F]

/-- The output as a function of the blocks at each grid point. -/
def outVal (x1 x2 x3 : Fin 16 → Vec F S1x100x128 .i32) (x4 : Fin 16 → Vec F S128x26 .f32) (x5 : Fin 16 → Vec F S64x1 .f32) :
    S204800x128.Idx → Elt F .f32 := fun i =>
  have h0 : (i 0).val < 204800 := (i 0).isLt
  let n : Fin 16 := ⟨(i 0).val / 12800, by omega⟩
  chunkOf (tabOf (x4 n)) (invOf (x5 n)) (x1 n) (x2 n) (x3 n) (j := (i 0).val / 128 % 100) (by omega)
    (ix3 (0 : Fin 1) ⟨(i 0).val % 128, by omega⟩ (i 1))

/-- The output at a row given by its grid point, its row of tokens and its token. -/
theorem outVal_at (x1 x2 x3 : Fin 16 → Vec F S1x100x128 .i32) (x4 : Fin 16 → Vec F S128x26 .f32) (x5 : Fin 16 → Vec F S64x1 .f32)
    (n : Fin 16) (j : ℕ) (hj : j < 100) (l d : Fin 128) (r : Fin 204800) (hr : r.val = 12800 * n.val + 128 * j + l.val) :
    outVal x1 x2 x3 x4 x5 (ix2 r d) = chunkOf (tabOf (x4 n)) (invOf (x5 n)) (x1 n) (x2 n) (x3 n) hj (ix3 (0 : Fin 1) l d) := by
  have hl := l.isLt
  unfold outVal
  have e0 : (⟨r.val / 12800, by omega⟩ : Fin 16) = n := Fin.ext (by show r.val / 12800 = n.val; omega)
  have e1 : r.val / 128 % 100 = j := by omega
  have e2 : (⟨r.val % 128, by omega⟩ : Fin 128) = l := Fin.ext (by show r.val % 128 = l.val; omega)
  simp only [ix2_0, ix2_1]
  simp only [e0, e1, e2]

/-- Step `s` of point `n` delivers its piece of the output. -/
theorem outVal_delivers (x1 x2 x3 : Fin 16 → Vec F S1x100x128 .i32) (x4 : Fin 16 → Vec F S128x26 .f32) (x5 : Fin 16 → Vec F S64x1 .f32)
    (n : Fin 16) (s : Fin 4) :
    Delivers (tabOf (x4 n)) (invOf (x5 n)) (x1 n) (x2 n) (x3 n) (base := 25 * s.val) (by omega) ⟨4 * n.val + s.val, by omega⟩
      (outVal x1 x2 x3 x4 x5) := fun k l d =>
  outVal_at x1 x2 x3 x4 x5 n (25 * s.val + k.val) (by omega) l d _
    (by show 3200 * (4 * n.val + s.val) + (128 * k.val + l.val) = 12800 * n.val + 128 * (25 * s.val + k.val) + l.val; omega)

/-- Grid point `n` as the pipeline counts it. -/
def gpt (n : Fin 16) : Fin cfg0.N := ⟨n.val, by rw [show cfg0.N = 16 from N_0]; exact n.isLt⟩

/-- The coordinate of a point is its number. -/
theorem coords_val : ∀ t : Fin grid0.N, ((grid0.coords t) 0).val = t.val := by decide +kernel

variable (m : (ℓ : Loc nD τ sig) → Buf (Elt F) ℓ)

/-- What the launch leaves in the kernel's output. -/
def outBuf (c : Dev nD) : S204800x128.Idx → Elt F .f32 :=
  outVal (fun n => iblk m c 0 (gpt n)) (fun n => iblk m c 1 (gpt n)) (fun n => iblk m c 2 (gpt n)) (fun n => iblk m c 3 (gpt n))
    (fun n => iblk m c 4 (gpt n))

end Cert.KernelIdeal.Embed

end
-- ==== Proof.BodyEq.lean ====
/-
  The printed body is `body`: at each of the sixteen grid points, where the conditions of its waits are decided, the
  two programs perform the same operations one by one.
-/
module

public import proofs.«01_k».proof.Proof.Body

@[expose] public section

noncomputable section

namespace Cert.KernelIdeal.Embed

open Idealize.ShloMosaic Idealize.SL.Sem

variable {F : FTy → Type} [FloatOps F]

set_option maxRecDepth 100000 in
set_option maxHeartbeats 40000000 in
/-- At the grid point of coordinate `n` the printed body is `body`. -/
theorem body_eq_at (n : Fin 16) (arg1 : Memref sig .tc .vmem S1x100x128 .i32) (harg1 : arg1.IsWhole)
    (arg2 : Memref sig .tc .vmem S1x100x128 .i32) (harg2 : arg2.IsWhole) (arg3 : Memref sig .tc .vmem S1x100x128 .i32) (harg3 : arg3.IsWhole)
    (arg4 : Memref sig .tc .vmem S128x26 .f32) (harg4 : arg4.IsWhole) (arg5 : Memref sig .tc .vmem S64x1 .f32) (harg5 : arg5.IsWhole)
    (arg6 : Memref sig .tc .hbm S204800x128 .f32) (harg6 : arg6.IsWhole) (arg7 : Memref sig .tc .vmem S2x3200x128 .f32) (harg7 : arg7.IsWhole)
    (arg8 : DmaSems sig S2) :
    cc0__body (F := F) (fun | 0 => n) arg1 harg1 arg2 harg2 arg3 harg3 arg4 harg4 arg5 harg5 arg6 harg6 arg7 harg7 arg8
      = body arg1 arg2 arg3 arg4 arg5 arg6 arg7 arg8 (fun | 0 => n) := by
  match n with
  | 0 | 1 | 2 | 3 | 4 | 5 | 6 | 7 | 8 | 9 | 10 | 11 | 12 | 13 | 14 | 15 =>
    repeat refine congrArg (Prog.op _) (funext fun _ => ?_)
    rfl
  | ⟨_ + 16, h⟩ => exact absurd h (by omega)

/-- The printed body is `body`. -/
theorem body_eq (i : grid0.Coords) (arg1 : Memref sig .tc .vmem S1x100x128 .i32) (harg1 : arg1.IsWhole)
    (arg2 : Memref sig .tc .vmem S1x100x128 .i32) (harg2 : arg2.IsWhole) (arg3 : Memref sig .tc .vmem S1x100x128 .i32) (harg3 : arg3.IsWhole)
    (arg4 : Memref sig .tc .vmem S128x26 .f32) (harg4 : arg4.IsWhole) (arg5 : Memref sig .tc .vmem S64x1 .f32) (harg5 : arg5.IsWhole)
    (arg6 : Memref sig .tc .hbm S204800x128 .f32) (harg6 : arg6.IsWhole) (arg7 : Memref sig .tc .vmem S2x3200x128 .f32) (harg7 : arg7.IsWhole)
    (arg8 : DmaSems sig S2) :
    cc0__body (F := F) i arg1 harg1 arg2 harg2 arg3 harg3 arg4 harg4 arg5 harg5 arg6 harg6 arg7 harg7 arg8
      = body arg1 arg2 arg3 arg4 arg5 arg6 arg7 arg8 i := by
  have hi : i = (fun | 0 => i 0) := funext fun a => by fin_cases a; rfl
  rw [hi]
  exact body_eq_at (i 0) arg1 harg1 arg2 harg2 arg3 harg3 arg4 harg4 arg5 harg5 arg6 harg6 arg7 harg7 arg8

end Cert.KernelIdeal.Embed

end
-- ==== Proof.Launch.lean ====
/-
  The kernel's launch: the proof data of its pipeline, the body at every grid point, and the run of the whole program,
  which leaves the output at `outBuf` (`run_main`).
-/
module

public import proofs.«01_k».proof.Proof.Target
public import proofs.«01_k».proof.Proof.BodyEq
public import Idealize.ShloMosaic.Lib.Pipeline.FrameSuffixV

@[expose] public section

set_option maxRecDepth 16384

noncomputable section

namespace Cert.KernelIdeal.Embed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pipeline's proof data: every window's array as the region finds it and its block left in place, the ring before each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := ringBefore c (outBuf m c) t.val
  q _ := fullShare
  owed _ := 0

theorem A_eq (c : Dev nD) (w : Fin cfg0.W) : (dats m 0 c).A w = V m c (Pipeline.arrRef spec0 w) := by
  dsimp only [dats]

/-- Each window's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

/-- The ring at a point's start; -/
theorem ring_castSucc (c : Dev nD) (t : Fin cfg0.N) : (dats m 0 c).Φ t.castSucc = ringBefore c (outBuf m c) t.val := by
  dsimp only [dats]; simp only [Fin.val_castSucc]
/-- and at its end. -/
theorem ring_succ (c : Dev nD) (t : Fin cfg0.N) : (dats m 0 c).Φ t.succ = ringBefore c (outBuf m c) (t.val + 1) := by
  dsimp only [dats]; simp only [Fin.val_succ]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [after_0, after_1, after_2, after_3, after_4, ring_castSucc m c t, ring_succ m c t, body_eq]
  obtain ⟨n, rfl⟩ : ∃ n : Fin 16, t = gpt n :=
    ⟨⟨t.val, lt_of_lt_of_eq t.isLt (show cfg0.N = 16 from N_0)⟩, rfl⟩
  rw [show grid0.coords (gpt n) = pt n from (eq_pt _).trans (congrArg pt (Fin.ext (coords_val (gpt n))))]
  unfold Dat.owesAt Pipeline.owesWithin
  rw [show (dats m 0 c).owed (gpt n).castSucc = 0 from rfl, show (dats m 0 c).owed (gpt n).succ = 0 from rfl]
  unfold owns
  have e0 : (st0_0 (gpt n)).view.set = Finset.univ := (hstage0_0 ((cfg0.slots (gpt n) 0).cast nbuf0_0)).set_eq_univ
  have e1 : (st0_1 (gpt n)).view.set = Finset.univ := (hstage0_1 ((cfg0.slots (gpt n) 1).cast nbuf0_1)).set_eq_univ
  have e2 : (st0_2 (gpt n)).view.set = Finset.univ := (hstage0_2 ((cfg0.slots (gpt n) 2).cast nbuf0_2)).set_eq_univ
  have e3 : (st0_3 (gpt n)).view.set = Finset.univ := (hstage0_3 ((cfg0.slots (gpt n) 3).cast nbuf0_3)).set_eq_univ
  have e4 : (st0_4 (gpt n)).view.set = Finset.univ := (hstage0_4 ((cfg0.slots (gpt n) 4).cast nbuf0_4)).set_eq_univ
  rw [e0, e1, e2, e3, e4]
  iintro ⟨HR, ⟨%W, -, HW⟩, ⟨%d0, ⟨%f1, %h1, H1⟩⟩, ⟨%d1, ⟨%f2, %h2, H2⟩⟩, ⟨%d2, ⟨%f3, %h3, H3⟩⟩, ⟨%d3, ⟨%f4, %h4, H4⟩⟩, ⟨%d4, ⟨%f5, %h5, H5⟩⟩⟩
  iapply (body_wp c (outBuf m c) (st0_0 (gpt n)) (st0_1 (gpt n)) (st0_2 (gpt n)) (iblk m c 0 (gpt n)) (iblk m c 1 (gpt n)) (iblk m c 2 (gpt n))
    f1 f2 f3 h1 h2 h3 n (st0_3 (gpt n)) (st0_4 (gpt n)) (iblk m c 3 (gpt n)) (iblk m c 4 (gpt n)) f4 f5 h4 h5
    (fun s => outVal_delivers (fun n => iblk m c 0 (gpt n)) (fun n => iblk m c 1 (gpt n)) (fun n => iblk m c 2 (gpt n))
      (fun n => iblk m c 3 (gpt n)) (fun n => iblk m c 4 (gpt n)) n s) _)
  isplitl [HR]; · iexact HR
  isplitl [HW H1 H2 H3 H4 H5]
  · isplitl [H1 H2 H3 HW]
    · isplitl [H1 H2 H3]
      · isplitl [H1]; · iexact H1
        isplitl [H2]; · iexact H2
        iexact H3
      iexists W; iexact HW
    isplitl [H4]; · iexact H4
    iexact H5
  iintro ⟨HR, ⟨⟨⟨H1, H2, H3⟩, ⟨%W', HW'⟩⟩, H4, H5⟩⟩
  isplitl [HR]; · iexact HR
  isplitl [HW']
  · iexists W'; isplitr; · ipureintro; exact fun _ _ => Or.inl trivial
    iexact HW'
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  iexists f5; isplitr; · ipureintro; exact h5
  iexact H5

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The pipeline's obligation of its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The semaphores of the kernel's own copies. -/
abbrev osem : Fin 2 → SemLoc sig := fun j => (![SemLoc.dma 8, SemLoc.dma 9] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0 ∗ semVal ((c : Thread nD τ), SemLoc.dma 9) 0) := by
  rw [Pipeline.ownSems0_eq_of_list c osem [0, 1] (by decide) (by decide)]; rfl

/-- The one buffer that the body writes by its own copies. -/
def written : Finset (Ref sig .tc) := {main_v15}
theorem written_sub : written ⊆ Pipeline.restRefs sig spec0 \ ∅ := by decide

/-- The buffers after the region: the output at `outBuf`, the others as the region finds them. -/
def exitBufs (c : Dev nD) : (b : Ref sig .tc) → Buf (Elt F) ((c : Thread nD τ).loc b) :=
  Function.update (V m c) main_v15 (outBuf m c)

/-- What the launch hands the region and takes back, listed. -/
theorem handed_eq (G : (c : Dev nD) → (b : Ref sig .tc) → Buf (Elt F) ((c : Thread nD τ).loc b)) (c : Dev nD) :
    (Pipeline.ΦDRV osem spec0 ∅ written (V m) G c : sProp 𝕄)
      = iprop((∃ f : Buf (Elt F) ((c : Thread nD τ).loc cc0_scratch0), ((c : Thread nD τ).loc cc0_scratch0) ↦{fullShare} f)
        ∗ iprop(semVal ((c : Thread nD τ), SemLoc.dma 8) 0 ∗ semVal ((c : Thread nD τ), SemLoc.dma 9) 0)
        ∗ iprop(emp) ∗ (((c : Thread nD τ).loc main_v15) ↦{fullShare} G c main_v15)) := by
  unfold Pipeline.ΦDRV
  rw [scopedRest0_eq, ownSems_eq, BI.bigSep_eq_bigSepL_of_eq [] (by decide) (by decide),
    BI.bigSep_eq_bigSepL_of_eq [main_v15] (by decide) (by decide)]
  rfl

/-- What the launch hands the region is the ring before the first point, -/
theorem hin (c : Dev nD) : Pipeline.ΦDRV osem spec0 ∅ written (V m) (V m) c ⊢ (dats m 0 c).Φ 0 := by
  rw [handed_eq, show (dats m 0 c).Φ 0 = ringAt c (outBuf m c) 0 from rfl]
  iintro ⟨HS, HC, -, HO⟩
  iapply (ring_in c (outBuf m c) (V m c main_v15))
  isplitl [HS]; · iexact HS
  isplitl [HC]; · iexact HC
  iexact HO
/-- and the ring after the last point is what the launch takes back. -/
theorem hout (c : Dev nD) : (dats m 0 c).Φ (Fin.last cfg0.N) ⊢ Pipeline.ΦDRV osem spec0 ∅ written (V m) (exitBufs m) c := by
  rw [handed_eq, show (dats m 0 c).Φ (Fin.last cfg0.N) = ringBefore c (outBuf m c) cfg0.N from rfl, show cfg0.N = 16 from N_0,
    show (ringBefore c (outBuf m c) 16 : sProp 𝕄) = ringEnd c (outBuf m c) from if_neg (by decide),
    show exitBufs m c main_v15 = outBuf m c from Function.update_self ..]
  iintro HR
  ihave HX := (ring_out c (outBuf m c)) $$ HR
  icases HX with ⟨HS, HC, HO⟩
  isplitl [HS]; · iexact HS
  isplitl [HC]; · iexact HC
  isplitr; · iempintro
  iexact HO

set_option maxHeartbeats 800000 in
/-- The program around the region. -/
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The buffers at the end of the program. -/
abbrev endBufs (c : Dev nD) : Valuation τ sig (Elt F) :=
  StableHlo.after (List.flatten [hostOps1])
    (Pipeline.withArrays spec0 c (Pipeline.withR (V0 m c) written c (exitBufs m c)) fun w => (dats m 0 c).arrAt w cfg0.N)

set_option backward.isDefEq.respectTransparency.types false in
/-- The whole program runs to the end, every buffer that is no window's array at `endBufs`, every semaphore at zero. -/
theorem run_main : θ_run defs (onTc (τ := τ) (main (F := F))) (s₀ m ρ) (fun r =>
    (∀ c : Dev nD, ∀ b ∈ Pipeline.restRefs sig spec0, r.2.mem ((c.tc : Thread nD τ).loc b) = endBufs m c (Proc.devRef .tc b))
      ∧ r.2.sem = fun _ => 0) :=
  Pipeline.θ_run_frame_dmaR_aroundV cfgs (dats m) (0 : Fin 1) launch0 osem defs₀ Variants.none ownSemFacts ∅ written
    (by decide) written_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := exitBufs m) (hmain := hmain m) (hA := A_eq m) (hin := hin m) (hout := hout m)
    (Q' := fun r => (∀ c : Dev nD, ∀ b ∈ Pipeline.restRefs sig spec0, r.2.mem ((c.tc : Thread nD τ).loc b) = endBufs m c (Proc.devRef .tc b))
      ∧ r.2.sem = fun _ => 0)
    (hQ' := fun _ h => ⟨fun c => (h.1 c).2, h.2⟩)

end Cert.KernelIdeal.Embed

end
-- ==== Proof.End.lean ====
/-
  What the kernel's program leaves: every argument array as it was, every semaphore at zero, and the result at `result`,
  the rows of `outBuf` laid out as the result array (`run_result`, `run_quiescent`).
-/
module

public import proofs.«01_k».proof.Proof.Launch

@[expose] public section

set_option maxRecDepth 16384

noncomputable section

namespace Cert.KernelIdeal.Embed

open Idealize.ShloMosaic Idealize.ShloMosaic.TcCoe Idealize.ShloMosaic.Tactic
open Idealize.SL.Sem
open Cert.KernelIdeal.Gen

variable {F : FTy → Type} [FloatOps F]

variable (m : (ℓ : Loc nD τ sig) → Buf (Elt F) ℓ) (ρ : Dev nD → PrngReg)

/-- A buffer that is neither the result, nor the launch's output, nor a window's array ends as the region found it. -/
theorem end_keeps (c : Dev nD) (b : Ref sig .tc) (hr : b ≠ main_v16) (hw : b ∉ written) (ha : ∀ w, Pipeline.arrRef spec0 w ≠ b) :
    endBufs m c (Proc.devRef .tc b) = V m c b :=
  (StableHlo.reshape_result_ne main_v15 main_v16 _ _ _ _ _ hr).trans
    ((Pipeline.withArrays_of_ne spec0 c _ _ b ha).trans (Pipeline.withR_of_not_mem _ written c _ b hw))

/-- The result array: the output's rows, grouped by sequence. -/
def result (c : Dev nD) : Buf (Elt F) ((c.tc : Thread nD τ).loc main_v16) :=
  shapeCast S1024x200x128 (outBuf m c) shapeCasts_S204800x128_S1024x200x128

/-- The last host operation lays the output out. -/
theorem tail_result (W : Valuation τ sig (Elt F)) :
    StableHlo.after (List.flatten [hostOps1]) W (Proc.devRef .tc main_v16)
      = shapeCast S1024x200x128 (W (Proc.devRef .tc main_v15)) shapeCasts_S204800x128_S1024x200x128 := by
  show StableHlo.after [_] W _ = _
  rw [StableHlo.after_cons, StableHlo.after_nil, StableHlo.reshape_result]
  rfl

theorem end_result (c : Dev nD) : endBufs m c (Proc.devRef .tc main_v16) = result m c := by
  have h : (Pipeline.withArrays spec0 c (Pipeline.withR (V0 m c) written c (exitBufs m c)) fun w => (dats m 0 c).arrAt w cfg0.N)
      (Proc.devRef .tc main_v15) = outBuf m c :=
    (Pipeline.withArrays_of_ne spec0 c _ _ main_v15 (by decide)).trans
      ((Pipeline.withR_of_mem _ written c _ main_v15 (by decide)).trans (Function.update_self ..))
  exact (tail_result _).trans (congrArg (fun X => shapeCast S1024x200x128 X shapeCasts_S204800x128_S1024x200x128) h)

/-- The argument arrays of `m'` are those of `m`. -/
abbrev ArgsKept (m m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)

/-- The buffers at the end keep the arguments. -/
theorem args_kept {m' : (ℓ : Loc nD τ sig) → Buf (Elt F) ℓ} (c : Dev nD)
    (h : ∀ b ∈ Pipeline.restRefs sig spec0, m' ((c.tc : Thread nD τ).loc b) = endBufs m c (Proc.devRef .tc b)) : ArgsKept m m' c := by
  have key : ∀ b : Ref sig .tc, b ∈ Pipeline.restRefs sig spec0 → b ≠ main_v16 → b ∉ written → (∀ w, Pipeline.arrRef spec0 w ≠ b) →
      m' ((c.tc : Thread nD τ).loc b) = V m c b := fun b hb hr hw ha => (h b hb).trans (end_keeps m c b hr hw ha)
  refine ⟨?_, ?_, ?_, ?_, ?_, ?_, ?_⟩
  · exact (key main_arg0 (Pipeline.mem_restRefs_of main_arg0 (by decide) (by decide)) (by decide) (by decide) (by decide)).trans (V_main_arg0 m c)
  · exact (key main_arg1 (Pipeline.mem_restRefs_of main_arg1 (by decide) (by decide)) (by decide) (by decide) (by decide)).trans (V_main_arg1 m c)
  · exact (key main_arg2 (Pipeline.mem_restRefs_of main_arg2 (by decide) (by decide)) (by decide) (by decide) (by decide)).trans (V_main_arg2 m c)
  · exact (key main_arg3 (Pipeline.mem_restRefs_of main_arg3 (by decide) (by decide)) (by decide) (by decide) (by decide)).trans (V_main_arg3 m c)
  · exact (key main_arg4 (Pipeline.mem_restRefs_of main_arg4 (by decide) (by decide)) (by decide) (by decide) (by decide)).trans (V_main_arg4 m c)
  · exact (key main_arg5 (Pipeline.mem_restRefs_of main_arg5 (by decide) (by decide)) (by decide) (by decide) (by decide)).trans (V_main_arg5 m c)
  · exact (key main_arg6 (Pipeline.mem_restRefs_of main_arg6 (by decide) (by decide)) (by decide) (by decide) (by decide)).trans (V_main_arg6 m c)

/-- The kernel's program runs to the end, keeps its arguments and leaves every semaphore at zero. -/
theorem run_quiescent : θ_run (defs (F := F)) (onTc (τ := τ) (main (F := F))) ⟨m, fun _ => 0, ρ⟩ (fun r =>
    (∀ c : Dev nD, ArgsKept m r.2.mem c) ∧ r.2.sem = fun _ => 0) :=
  (θ_run _ _ _).mono (fun _ h => ⟨fun c => args_kept m c (h.1 c), h.2⟩) (run_main m ρ)

/-- The kernel's program runs to the end, leaves the result at `result` and keeps its arguments. -/
theorem run_result : θ_run (defs (F := F)) (onTc (τ := τ) (main (F := F))) ⟨m, fun _ => 0, ρ⟩ (fun r =>
    ∀ c : Dev nD, r.2.mem ((c.tc : Thread nD τ).loc main_v16) = result m c ∧ ArgsKept m r.2.mem c) :=
  (θ_run _ _ _).mono (fun _ h c => ⟨(h.1 c main_v16 (Pipeline.mem_restRefs_of main_v16 (by decide) (by decide))).trans (end_result m c),
    args_kept m c (h.1 c)⟩) (run_main m ρ)

end Cert.KernelIdeal.Embed

end
-- ==== Proof.Frames.lean ====
/-
  The three programs run to the end, keep their arguments and leave every semaphore at zero.
-/
module

public import proofs.«01_k».proof.Proof.End
public import proofs.«01_k».proof.Proof.Gen.Kernel.Frame
public import proofs.«01_k».proof.Proof.Gen.ReferenceIdeal.Run
public import proofs.«01_k».proof.Defs

@[expose] public section

set_option maxRecDepth 16384

noncomputable section

namespace Cert.Proof

open Idealize.ShloMosaic Idealize.ShloMosaic.TcCoe
open Idealize.SL.Sem

/-- The idealized kernel. -/
theorem frame_pi : Cert.quiescent_KernelIdeal (hKernelIdeal := Cert.KernelIdeal.Gen.facts) :=
  fun m ρ _ => Cert.KernelIdeal.Embed.run_quiescent (F := Ideal) m ρ

theorem frame_pi_drawn [Cert.Pre_drawn.Facts] : Cert.quiescent_KernelIdeal_pre_drawn (hKernelIdeal := Cert.KernelIdeal.Gen.facts) :=
  fun m ρ _ => Cert.KernelIdeal.Embed.run_quiescent (F := Ideal) m ρ

theorem frame_pi_placed [Cert.Pre_placed.Facts] : Cert.quiescent_KernelIdeal_pre_placed (hKernelIdeal := Cert.KernelIdeal.Gen.facts) :=
  fun m ρ _ => Cert.KernelIdeal.Embed.run_quiescent (F := Ideal) m ρ

/-- The reference: it declares no semaphore. -/
theorem frame_ri : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_ri_drawn [Cert.Pre_drawn.Facts] : Cert.quiescent_ReferenceIdeal_pre_drawn (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's body table at the machine's own numbers is the idealized kernel's at those numbers. -/
theorem table_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) table_eq

/-- The kernel at the machine's own numbers is the same program, so it runs as the idealized one does at any numbers. -/
theorem frame_p : Cert.quiescent_Kernel (hKernel := Cert.Kernel.Gen.facts) := by
  intro m ρ _
  rw [defs_eq]
  exact Cert.KernelIdeal.Embed.run_quiescent (F := Bits) m ρ

end Cert.Proof

end
-- ==== Proof.Numbers.lean ====
/-
  Arithmetic of finite extended reals: sums, roundings and words of floats that denote real numbers, and the layer
  norm of 128 real numbers written in two ways: with the variance as the mean square less the squared mean, times the
  reciprocal root; and with the variance as the mean squared deviation, divided by the root.
-/
module

public import Idealize.ShloMosaic.PureOps.Ideal
public import Mathlib.Tactic.NormNum
public import Mathlib.Tactic.Ring
public import Mathlib.Tactic.Linarith

@[expose] public section

noncomputable section

namespace Cert.Numbers

open Idealize.ShloMosaic
open scoped BigOperators

/-! ## Sums -/

/-- A finite sum of real numbers is the same sum among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The quotient of two real numbers, the second not zero. -/
theorem div_real (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- The root of a number that is not negative. -/
theorem sqrt_real {x : ℝ} (h : 0 ≤ x) : Ideal.sqrt (x : EReal) = ((Real.sqrt x : ℝ) : EReal) :=
  if_neg (not_lt.2 h)

/-- The reciprocal root of a positive number. -/
theorem rsqrt_real {x : ℝ} (h : 0 < x) : Ideal.rsqrt (x : EReal) = (((Real.sqrt x)⁻¹ : ℝ) : EReal) :=
  (if_neg (not_lt.2 h.le)).trans (if_neg h.ne')

/-- Rounding a real number to an integer. -/
theorem round_real (x : ℝ) : Ideal.liftRound Ideal.roundHalfEven (x : EReal) = ((Ideal.roundHalfEven x : ℝ) : EReal) := rfl

/-- A power of real numbers. -/
theorem pow_real (x y : ℝ) : Ideal.pow (x : EReal) (y : EReal) = ((Real.rpow x y : ℝ) : EReal) := rfl

/-! ## Words -/

/-- The real number that a word denotes (zero for the words that denote none). -/
def word (b : BitVec 32) : ℝ := (Ideal.ofBits .f32 b).toReal

/-- A word whose exponent is not all ones denotes a real number. -/
theorem ofBits_word (b : BitVec 32) (h : (b.extractLsb' 23 8).toNat ≠ 255) :
    Ideal.ofBits .f32 b = (word b : EReal) := by
  have e : ∃ r : ℝ, Ideal.ofBits .f32 b = (r : EReal) := by
    simp only [Ideal.ofBits, Ideal.ieee]
    rw [if_neg (by simpa using h)]
    split
    · exact ⟨_, rfl⟩
    · exact ⟨_, rfl⟩
  obtain ⟨r, e⟩ := e
  unfold word
  rw [e, EReal.toReal_coe]

/-- The word of a number. -/
theorem word_zero : word 0x00000000#32 = 0 := by
  unfold word; simp [Ideal.ofBits, Ideal.ieee]

theorem word_one : word 0x3F800000#32 = 1 := by
  unfold word; simp [Ideal.ofBits, Ideal.ieee, EReal.toReal_mul]; norm_num

theorem word_128 : word 0x43000000#32 = 128 := by
  unfold word; simp [Ideal.ofBits, Ideal.ieee, EReal.toReal_mul]; norm_num

theorem word_tenThousand : word 0x461C4000#32 = 10000 := by
  unfold word; simp [Ideal.ofBits, Ideal.ieee, EReal.toReal_mul]; norm_num

theorem word_eps_pos : 0 < word 0x3727C5AC#32 := by
  unfold word; simp [Ideal.ofBits, Ideal.ieee, EReal.toReal_mul]

theorem word_sin7 : word 0xB914D094#32 = -word 0x3914D094#32 := by
  unfold word; simp [Ideal.ofBits, Ideal.ieee]; try norm_num

theorem word_sin3 : word 0xBE29B865#32 = -word 0x3E29B865#32 := by
  unfold word; simp [Ideal.ofBits, Ideal.ieee]; try norm_num

theorem word_cos6 : word 0xBA6B275E#32 = -word 0x3A6B275E#32 := by
  unfold word; simp [Ideal.ofBits, Ideal.ieee]; try norm_num

theorem word_cos2 : word 0xBEFBF54A#32 = -word 0x3EFBF54A#32 := by
  unfold word; simp [Ideal.ofBits, Ideal.ieee]; try norm_num

/-! ## The layer norm -/

/-- The mean of 128 numbers. -/
def mean (X : Fin 128 → ℝ) : ℝ := (∑ k, X k) / 128

/-- Their mean squared deviation. -/
def variance (X : Fin 128 → ℝ) : ℝ := (∑ k, (X k - mean X) * (X k - mean X)) / 128

/-- The number at `d` less the mean, over the root of the variance and `e`. -/
def normed (e : ℝ) (X : Fin 128 → ℝ) (d : Fin 128) : ℝ := (X d - mean X) / Real.sqrt (variance X + e)

/-- The variance is the mean square less the squared mean. -/
theorem variance_eq (X : Fin 128 → ℝ) : (∑ k, X k * X k) / 128 - mean X * mean X = variance X := by
  have h : ∑ k, (X k - mean X) * (X k - mean X) = (∑ k, X k * X k) - 2 * mean X * (∑ k, X k) + 128 * (mean X * mean X) := by
    have e : ∀ k, (X k - mean X) * (X k - mean X) = X k * X k - 2 * mean X * X k + mean X * mean X := fun k => by ring
    simp only [e, Finset.sum_add_distrib, Finset.sum_sub_distrib, ← Finset.mul_sum, Finset.sum_const, Finset.card_univ,
      Fintype.card_fin, nsmul_eq_mul]
    push_cast
    ring
  have s : (∑ k, X k) = 128 * mean X := by unfold mean; ring
  rw [variance, h, s]
  ring

theorem variance_nonneg (X : Fin 128 → ℝ) : 0 ≤ variance X :=
  div_nonneg (Finset.sum_nonneg fun k _ => mul_self_nonneg _) (by norm_num)

/-- The layer norm in one pass over the numbers and their squares. -/
theorem normed_onePass {e : ℝ} (he : 0 < e) (X : Fin 128 → ℝ) (d : Fin 128) :
    ((X d : EReal) - Ideal.div (∑ k, (X k : EReal)) ((128 : ℝ) : EReal))
        * Ideal.rsqrt (Ideal.div (∑ k, (X k : EReal) * (X k : EReal)) ((128 : ℝ) : EReal)
            - Ideal.div (∑ k, (X k : EReal)) ((128 : ℝ) : EReal) * Ideal.div (∑ k, (X k : EReal)) ((128 : ℝ) : EReal)
            + (e : EReal))
      = (normed e X d : EReal) := by
  have hs : (∑ k, (X k : EReal)) = ((∑ k, X k : ℝ) : EReal) := coe_sum _ _
  have hq : (∑ k, (X k : EReal) * (X k : EReal)) = ((∑ k, X k * X k : ℝ) : EReal) := by
    rw [← coe_sum]; exact Finset.sum_congr rfl fun k _ => (EReal.coe_mul _ _).symm
  rw [hs, hq, div_real _ (by norm_num), div_real _ (by norm_num), ← EReal.coe_mul, ← EReal.coe_sub, ← EReal.coe_sub,
    ← EReal.coe_add]
  change ((X d - mean X : ℝ) : EReal) * Ideal.rsqrt (((∑ k, X k * X k) / 128 - mean X * mean X + e : ℝ) : EReal) = _
  rw [variance_eq, rsqrt_real (by have := variance_nonneg X; linarith), ← EReal.coe_mul, normed, div_eq_mul_inv]

/-- The layer norm in two passes: the mean, then the squared deviations from it. -/
theorem normed_twoPass {e : ℝ} (he : 0 < e) (X : Fin 128 → ℝ) (d : Fin 128) :
    Ideal.div ((X d : EReal) - Ideal.div (∑ k, (X k : EReal)) ((128 : ℝ) : EReal))
        (Ideal.sqrt (Ideal.div (∑ k, ((X k : EReal) - Ideal.div (∑ k, (X k : EReal)) ((128 : ℝ) : EReal))
            * ((X k : EReal) - Ideal.div (∑ k, (X k : EReal)) ((128 : ℝ) : EReal))) ((128 : ℝ) : EReal) + (e : EReal)))
      = (normed e X d : EReal) := by
  have hs : (∑ k, (X k : EReal)) = ((∑ k, X k : ℝ) : EReal) := coe_sum _ _
  rw [hs, div_real _ (by norm_num)]
  change Ideal.div ((X d : EReal) - (mean X : EReal)) (Ideal.sqrt (Ideal.div
    (∑ k, ((X k : EReal) - (mean X : EReal)) * ((X k : EReal) - (mean X : EReal))) _ + _)) = _
  have hq : (∑ k, ((X k : EReal) - (mean X : EReal)) * ((X k : EReal) - (mean X : EReal)))
      = ((∑ k, (X k - mean X) * (X k - mean X) : ℝ) : EReal) := by
    rw [← coe_sum]; exact Finset.sum_congr rfl fun k _ => by rw [← EReal.coe_sub, ← EReal.coe_mul]
  have hv : 0 < variance X + e := by have := variance_nonneg X; linarith
  rw [hq, div_real _ (by norm_num), ← EReal.coe_sub, ← EReal.coe_add]
  change Ideal.div _ (Ideal.sqrt ((variance X + e : ℝ) : EReal)) = _
  rw [sqrt_real hv.le, div_real _ (Real.sqrt_pos.2 hv).ne', normed]

end Cert.Numbers

end
-- ==== Proof.Spec.lean ====
/-
  What both programs compute, over the real numbers: for one token, the layer norm of its two table rows plus the
  encoding of its position.
-/
module

public import proofs.«01_k».proof.Proof.Numbers

@[expose] public section

noncomputable section

namespace Cert.Spec

open Idealize.ShloMosaic Cert.Numbers

/-- The inverse frequency of pair `k` of the 64. -/
def freq (k : Fin 64) : ℝ := 1 / Real.rpow 10000 (word 0x40000000#32 * (k : ℝ) / 128)

/-- The inverse frequency as the programs compute it. -/
theorem freq_eq (k : Fin 64) :
    Ideal.div 1 (Ideal.pow (Ideal.ofBits .f32 0x461C4000#32) (Ideal.div
      (Ideal.ofBits .f32 0x40000000#32 * (FloatOps.sitofp FTy.f32 (BitVec.ofNat 32 k.val) : Ideal .f32))
      (Ideal.ofBits .f32 0x43000000#32))) = ((freq k : ℝ) : EReal) := by
  have hk : (FloatOps.sitofp FTy.f32 (BitVec.ofNat 32 k.val) : Ideal .f32) = ((k.val : ℝ) : EReal) := by
    have h : (BitVec.ofNat 32 k.val).toInt = (k.val : ℤ) := by
      revert k
      decide +kernel
    change (((BitVec.ofNat 32 k.val).toInt : ℝ) : EReal) = _
    rw [h]
    norm_num
  have hp : (0 : ℝ) < Real.rpow 10000 (word 0x40000000#32 * (k.val : ℝ) / 128) := Real.rpow_pos_of_pos (by norm_num) _
  rw [hk, ofBits_word 0x461C4000#32 (by decide), word_tenThousand, ofBits_word 0x40000000#32 (by decide),
    ofBits_word 0x43000000#32 (by decide), word_128, ← EReal.coe_mul, div_real _ (by norm_num), pow_real, ← EReal.coe_one,
    div_real _ hp.ne', freq]

/-- The whole turns nearest to an angle. -/
def turns (a : ℝ) : ℝ := (Ideal.roundHalfEven (a * word 0x3E22F983#32) : ℝ)

/-- The angle less its whole turns, a turn being the sum of two numbers. -/
def rest (a : ℝ) : ℝ := a - (turns a * word 0x40C80000#32 + turns a * word 0x3D07ED51#32)

/-- The sine's polynomial of degree seven. -/
def sine (r : ℝ) : ℝ :=
  word 0x3F7FE9D4#32 * r - word 0x3E29B865#32 * r ^ 3 + word 0x3C020041#32 * r ^ 5 - word 0x3914D094#32 * r ^ 7

/-- The cosine's polynomial of degree six. -/
def cosine (r : ℝ) : ℝ :=
  word 0x3F7F435E#32 - word 0x3EFBF54A#32 * r ^ 2 + word 0x3D1CA050#32 * r ^ 4 - word 0x3A6B275E#32 * r ^ 6

/-- The encoding of position `p`: 64 sines, then 64 cosines. -/
def code (p : ℤ) (d : Fin 128) : ℝ :=
  if h : d.val < 64 then sine (rest ((p : ℝ) * freq ⟨d.val, h⟩))
  else cosine (rest ((p : ℝ) * freq ⟨d.val - 64, by have := d.isLt; omega⟩))

/-- A token before the layer norm: its row of each table, plus the encoding of its position. -/
def token (snp chrom : Fin 128 → ℝ) (p : ℤ) (d : Fin 128) : ℝ := snp d + chrom d + code p d

/-- A token's row of the result. -/
def row (snp chrom : Fin 128 → ℝ) (p : ℤ) (d : Fin 128) : ℝ := normed (word 0x3727C5AC#32) (token snp chrom p) d

end Cert.Spec

end
-- ==== Proof.Blocks.lean ====
/-
  What the blocks at a grid point hold, of the arguments: row `j` of the three integer blocks is the 128 tokens from
  position `12800 n + 128 j` of the arrays; the table's columns are the rows of the two tables; and the inverse
  frequencies are the same at every point.
-/
module

public import proofs.«01_k».proof.Proof.Target
public import proofs.«01_k».proof.Proof.Spec
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Embed

open Idealize.ShloMosaic Idealize.ShloMosaic.TcCoe
open Cert.KernelIdeal.Gen

/-! ## The arrays the launch reads -/

section
variable {F : FTy → Type} [FloatOps F]
variable (m : (ℓ : Loc nD τ sig) → Buf (Elt F) ℓ) (c : Dev nD)

theorem V_eq (b : Ref sig .tc) : V m c b = StableHlo.after hostOps0 (fun b => m (c, b)) (Proc.devRef .tc b) := rfl

theorem V_values : V m c main_v0
    = shapeCast S16x100x128 (m ((c.tc : Thread nD τ).loc main_arg0) : Vec F S1024x200 .i32) shapeCasts_S1024x200_S16x100x128 := by
  rw [V_eq]; entry_read; rfl

theorem V_chromosomes : V m c main_v1
    = shapeCast S16x100x128 (m ((c.tc : Thread nD τ).loc main_arg1) : Vec F S1024x200 .i32) shapeCasts_S1024x200_S16x100x128 := by
  rw [V_eq]; entry_read; rfl

theorem V_positions : V m c main_v2
    = shapeCast S16x100x128 (m ((c.tc : Thread nD τ).loc main_arg2) : Vec F S1024x200 .i32) shapeCasts_S1024x200_S16x100x128 := by
  rw [V_eq]; entry_read; rfl

/-- The table: the two tables one above the other, transposed. -/
theorem V_table : V m c main_v14
    = transpose S128x26 [1, 0] (concatenate S26x128 0 [⟨S2x128, (m ((c.tc : Thread nD τ).loc main_arg3) : FVec F S2x128 .f32)⟩,
        ⟨S24x128, (m ((c.tc : Thread nD τ).loc main_arg4) : FVec F S24x128 .f32)⟩] concatenates_S2x128_S24x128_S26x128_d0)
      transposes_S26x128_S128x26_1_0 := by
  rw [V_eq]; entry_read; rfl

/-- The inverse frequencies, as a column. -/
theorem V_freq : V m c main_v12
    = shapeCast S64x1 (Host.divf (broadcastInDim S64 ![] bcast_S_S64 (constant S_ FTy.f32 0x3F800000#32))
        (Host.powf (broadcastInDim S64 ![] bcast_S_S64 (constant S_ FTy.f32 0x461C4000#32))
          (Host.divf (mulf (broadcastInDim S64 ![] bcast_S_S64 (constant S_ FTy.f32 0x40000000#32))
              (sitofp FTy.f32 (iotaInDim S64 32 0)))
            (broadcastInDim S64 ![] bcast_S_S64 (constant S_ FTy.f32 0x43000000#32)))) : FVec F S64 .f32) shapeCasts_S64_S64x1 := by
  rw [V_eq]; entry_read; rfl

/-! ## The blocks -/

theorem index_0 : ∀ t : Fin grid0.N, win0_0.index t = ![t.val, 0, 0] := by decide +kernel
theorem index_1 : ∀ t : Fin grid0.N, win0_1.index t = ![t.val, 0, 0] := by decide +kernel
theorem index_2 : ∀ t : Fin grid0.N, win0_2.index t = ![t.val, 0, 0] := by decide +kernel
theorem index_3 : ∀ t : Fin grid0.N, win0_3.index t = ![0, 0] := by decide +kernel
theorem index_4 : ∀ t : Fin grid0.N, win0_4.index t = ![0, 0] := by decide +kernel

/-- An array of sequences regrouped by grid point and row of tokens, read at a token. -/
theorem regroup_at (x : IVec S1024x200 32) (n : Fin 16) (j : Fin 100) (l : Fin 128) (b : Fin 1024) (s : Fin 200)
    (h : 200 * b.val + s.val = 12800 * n.val + 128 * j.val + l.val) :
    shapeCast S16x100x128 x shapeCasts_S1024x200_S16x100x128 (ix3 n j l) = x (ix2 b s) := by
  refine shapeCast_apply x shapeCasts_S1024x200_S16x100x128 (ix3 n j l) (ix2 b s) ?_
  rw [Shape.rowMajor_val_two, Shape.rowMajor_val_three]
  show b.val * 200 + s.val = (n.val * 100 + j.val) * 128 + l.val
  omega

variable (n : Fin 16)

theorem values_at (j : Fin 100) (l : Fin 128) : iblk m c 0 (gpt n) (ix3 0 j l) = V m c main_v0 (ix3 n j l) := by
  show V m c main_v0 _ = _
  congr 1
  blk_ext [index_0]
  exact Nat.add_zero n.val

theorem chromosomes_at (j : Fin 100) (l : Fin 128) : iblk m c 1 (gpt n) (ix3 0 j l) = V m c main_v1 (ix3 n j l) := by
  show V m c main_v1 _ = _
  congr 1
  blk_ext [index_1]
  exact Nat.add_zero n.val

theorem positions_at (j : Fin 100) (l : Fin 128) : iblk m c 2 (gpt n) (ix3 0 j l) = V m c main_v2 (ix3 n j l) := by
  show V m c main_v2 _ = _
  congr 1
  blk_ext [index_2]
  exact Nat.add_zero n.val

theorem table_at (d : Fin 128) (r : Fin 26) : iblk m c 3 (gpt n) (ix2 d r) = V m c main_v14 (ix2 d r) := by
  show V m c main_v14 _ = _
  congr 1
  blk_ext [index_3]

theorem freqs_at (k : Fin 64) : iblk m c 4 (gpt n) (ix2 k 0) = V m c main_v12 (ix2 k 0) := by
  show V m c main_v12 _ = _
  congr 1
  blk_ext [index_4]

end

end Cert.KernelIdeal.Embed

end
-- ==== Proof.ChunkValue.lean ====
/-
  What one chunk of the kernel holds, at a token and a coordinate: the layer norm of the sum of two columns of the
  table and the encoding of the position.
-/
module

public import proofs.«01_k».proof.Proof.Body
public import proofs.«01_k».proof.Proof.Spec
public import Idealize.ShloMosaic.Lib.Pointwise

@[expose] public section

noncomputable section

namespace Cert.KernelIdeal.Embed

open Idealize.ShloMosaic Idealize.SL.Sem
open Cert.KernelIdeal.Facts₀
open Cert Cert.Numbers

/-! ## The encoding -/

/-- The reduced angle. -/
theorem rest_at {inv : FVec Ideal S64x1 .f32} {p : Vec Ideal S1x1x128 .i32} {k : Fin 64} (l : Fin 128) {f : ℝ}
    (hf : inv (ix2 k 0) = (f : EReal)) :
    rest (angle inv p) (ix2 k l) = ((Spec.rest (((p (ix3 0 0 l) : BitVec 32).toInt : ℝ) * f) : ℝ) : EReal) := by
  pointwise [rest, turns, angle, splat]
  have hq : (FloatOps.sitofp FTy.f32 (p (ix3 0 0 l) : BitVec 32) : Ideal .f32)
      = (((p (ix3 0 0 l) : BitVec 32).toInt : ℝ) : EReal) := rfl
  rw [hf, hq, ofBits_word 0x3E22F983#32 (by decide), ofBits_word 0x40C80000#32 (by decide),
    ofBits_word 0x3D07ED51#32 (by decide)]
  generalize ((p (ix3 0 0 l) : BitVec 32).toInt : ℝ) = q
  rw [← EReal.coe_mul, ← EReal.coe_mul, round_real, ← EReal.coe_mul, ← EReal.coe_mul, ← EReal.coe_sub, ← EReal.coe_sub,
    EReal.coe_eq_coe_iff, Spec.rest, Spec.turns, mul_comm q f]
  ring

/-- The sine's polynomial, evaluated from the highest power down. -/
theorem sinPoly_at {x : FVec Ideal S64x128 .f32} {k : Fin 64} {l : Fin 128} {r : ℝ} (hx : x (ix2 k l) = (r : EReal)) :
    sinPoly x (mulf x x) (ix2 k l) = ((Spec.sine r : ℝ) : EReal) := by
  pointwise [sinPoly, splat]
  rw [hx, ofBits_word 0xB914D094#32 (by decide), ofBits_word 0x3C020041#32 (by decide),
    ofBits_word 0xBE29B865#32 (by decide), ofBits_word 0x3F7FE9D4#32 (by decide), word_sin7, word_sin3]
  simp only [← EReal.coe_mul, ← EReal.coe_add]
  rw [EReal.coe_eq_coe_iff, Spec.sine]
  ring

/-- The cosine's polynomial, evaluated from the highest power down. -/
theorem cosPoly_at {x : FVec Ideal S64x128 .f32} {k : Fin 64} {l : Fin 128} {r : ℝ} (hx : x (ix2 k l) = (r : EReal)) :
    cosPoly (mulf x x) (ix2 k l) = ((Spec.cosine r : ℝ) : EReal) := by
  pointwise [cosPoly, splat]
  rw [hx, ofBits_word 0xBA6B275E#32 (by decide), ofBits_word 0x3D1CA050#32 (by decide),
    ofBits_word 0xBEFBF54A#32 (by decide), ofBits_word 0x3F7F435E#32 (by decide), word_cos6, word_cos2]
  simp only [← EReal.coe_mul, ← EReal.coe_add]
  rw [EReal.coe_eq_coe_iff, Spec.cosine]
  ring

/-- The encoding of a chunk's positions. -/
theorem encode_at {inv : FVec Ideal S64x1 .f32} (p : Vec Ideal S1x1x128 .i32)
    (hinv : ∀ k : Fin 64, inv (ix2 k 0) = ((Spec.freq k : ℝ) : EReal)) (d l : Fin 128) :
    encode inv p (ix2 d l) = ((Spec.code (p (ix3 0 0 l) : BitVec 32).toInt d : ℝ) : EReal) := by
  pointwise [encode]
  rw [Spec.code]
  split
  · exact sinPoly_at (rest_at l (hinv _))
  · exact cosPoly_at (rest_at l (hinv _))

/-! ## The rows of the table -/

/-- The selector's word at row `x`. -/
theorem select_word : ∀ (a : Fin 2) (b : Fin 24) (x : Fin 26),
    (BitVec.setWidth 32 (IntOp.ori (IntOp.cmpi CmpIPredicate.eq (BitVec.ofNat 32 x.val) (BitVec.ofNat 32 a.val))
      (IntOp.cmpi CmpIPredicate.eq (BitVec.ofNat 32 x.val) (IntOp.addi (BitVec.ofNat 32 b.val) 2#32)))).toInt
      = if x.val = a.val then 1 else if x.val = b.val + 2 then 1 else 0 := by
  decide +kernel

/-- The selector's entry at row `x`: one at the value's row and at the chromosome's, which are two rows further on. -/
theorem select_entry {a b : ℕ} (ha : a < 2) (hb : b < 24) (x : Fin 26) :
    (FloatOps.sitofp FTy.f32 (BitVec.setWidth 32 (IntOp.ori (IntOp.cmpi CmpIPredicate.eq (BitVec.ofNat 32 x.val) (BitVec.ofNat 32 a))
      (IntOp.cmpi CmpIPredicate.eq (BitVec.ofNat 32 x.val) (IntOp.addi (BitVec.ofNat 32 b) 2#32)))) : Ideal .f32)
      = if x.val = a then 1 else if x.val = b + 2 then 1 else 0 := by
  have h := select_word ⟨a, ha⟩ ⟨b, hb⟩ x
  simp only at h
  change (((BitVec.setWidth 32 _).toInt : ℝ) : EReal) = _
  rw [h]
  split
  · norm_num
  · split <;> norm_num

/-- A sum over the table's rows against the selector is the two selected rows. -/
theorem sum_select (T : Fin 26 → EReal) {a b : ℕ} (ha : a < 2) (hb : b < 24) :
    ∑ x : Fin 26, T x * (if x.val = a then 1 else if x.val = b + 2 then 1 else 0)
      = T ⟨a, by omega⟩ + T ⟨b + 2, by omega⟩ := by
  have e : ∀ x : Fin 26, T x * (if x.val = a then 1 else if x.val = b + 2 then 1 else 0)
      = (if x = ⟨a, by omega⟩ then T x else 0) + (if x = ⟨b + 2, by omega⟩ then T x else 0) := by
    intro x
    simp only [Fin.ext_iff]
    by_cases h₁ : x.val = a
    · rw [if_pos h₁, if_pos h₁, if_neg (by omega), mul_one, add_zero]
    · rw [if_neg h₁, if_neg h₁, zero_add]
      by_cases h₂ : x.val = b + 2
      · rw [if_pos h₂, if_pos h₂, mul_one]
      · rw [if_neg h₂, if_neg h₂, mul_zero]
  rw [Finset.sum_congr rfl fun x _ => e x, Finset.sum_add_distrib, Finset.sum_ite_eq', Finset.sum_ite_eq',
    if_pos (Finset.mem_univ _), if_pos (Finset.mem_univ _)]

/-- A token before the layer norm. -/
theorem embed_at {tab : FVec Ideal S128x26 .f32} {inv : FVec Ideal S64x1 .f32} {p v c : Vec Ideal S1x1x128 .i32}
    (hinv : ∀ k : Fin 64, inv (ix2 k 0) = ((Spec.freq k : ℝ) : EReal)) {l : Fin 128} {a b : ℕ} (ha : a < 2) (hb : b < 24)
    (hv : v (ix3 0 0 l) = BitVec.ofNat 32 a) (hc : c (ix3 0 0 l) = BitVec.ofNat 32 b) {snp chrom : Fin 128 → ℝ}
    (hs : ∀ d, tab (ix2 d ⟨a, by omega⟩) = (snp d : EReal)) (ht : ∀ d, tab (ix2 d ⟨b + 2, by omega⟩) = (chrom d : EReal))
    (d : Fin 128) :
    embed tab inv p v c (ix2 d l) = ((Spec.token snp chrom (p (ix3 0 0 l) : BitVec 32).toInt d : ℝ) : EReal) := by
  have hm : matmul dot_S128x26_S26x128_S128x128_1_0_0_1_n_n none tab (select2 v c) (constant S128x128 .f32 0x00000000#32) (ix2 d l)
      = (snp d : EReal) + (chrom d : EReal) := by
    pointwise [select2]
    rw [hv, hc, Finset.sum_congr rfl fun x _ => by rw [select_entry ha hb], sum_select (fun x => tab (ix2 d x)) ha hb, hs, ht]
  change matmul dot_S128x26_S26x128_S128x128_1_0_0_1_n_n none tab (select2 v c) (constant S128x128 .f32 0x00000000#32) (ix2 d l)
    + encode inv p (ix2 d l) = _
  rw [hm, encode_at p hinv, ← EReal.coe_add, ← EReal.coe_add, Spec.token]

/-! ## The layer norm -/

/-- A chunk's entry for token `l` at coordinate `d`. -/
theorem chunkVal_at {tab : FVec Ideal S128x26 .f32} {inv : FVec Ideal S64x1 .f32} {p v c : Vec Ideal S1x1x128 .i32}
    (hinv : ∀ k : Fin 64, inv (ix2 k 0) = ((Spec.freq k : ℝ) : EReal)) {l : Fin 128} {a b : ℕ} (ha : a < 2) (hb : b < 24)
    (hv : v (ix3 0 0 l) = BitVec.ofNat 32 a) (hc : c (ix3 0 0 l) = BitVec.ofNat 32 b) {snp chrom : Fin 128 → ℝ}
    (hs : ∀ d, tab (ix2 d ⟨a, by omega⟩) = (snp d : EReal)) (ht : ∀ d, tab (ix2 d ⟨b + 2, by omega⟩) = (chrom d : EReal))
    (d : Fin 128) :
    chunkVal tab inv p v c (ix3 0 l d) = ((Spec.row snp chrom (p (ix3 0 0 l) : BitVec 32).toInt d : ℝ) : EReal) := by
  have he := embed_at (p := p) hinv ha hb hv hc hs ht
  unfold chunkVal
  generalize embed tab inv p v c = x at he ⊢
  pointwise [normalize, colMean]
  simp only [he]
  rw [ofBits_word 0x43000000#32 (by decide), word_128, ofBits_word 0x3727C5AC#32 (by decide)]
  exact normed_onePass word_eps_pos _ d

end Cert.KernelIdeal.Embed

end
-- ==== Proof.KernelToken.lean ====
/-
  The kernel's result at a token and a coordinate: the layer norm of the token's two table rows and its encoding.
-/
module

public import proofs.«01_k».proof.Proof.Blocks
public import proofs.«01_k».proof.Proof.ChunkValue
public import proofs.«01_k».proof.Proof.End

@[expose] public section

set_option maxRecDepth 16384

noncomputable section

namespace Cert.KernelIdeal.Embed

open Idealize.ShloMosaic Idealize.ShloMosaic.TcCoe
open Cert.KernelIdeal.Gen
open Cert Cert.Numbers

/-! ## The operands of a chunk, at an index -/

theorem rowOf_at (x : Vec Ideal S1x100x128 .i32) {j : ℕ} (hj : j < 100) (l : Fin 128) :
    rowOf x hj (ix3 0 0 l) = x (ix3 0 ⟨j, hj⟩ l) := by
  pointwise [rowOf]

theorem tabOf_at (x : Vec Ideal S128x26 .f32) (d : Fin 128) (r : Fin 26) : tabOf x (ix2 d r) = x (ix2 d r) := by
  pointwise [tabOf]

theorem invOf_at (x : Vec Ideal S64x1 .f32) (k : Fin 64) : invOf x (ix2 k 0) = x (ix2 k 0) := by
  pointwise [invOf]

variable (m : (ℓ : Loc nD τ sig) → Buf (Elt Ideal) ℓ) (c : Dev nD)

/-- The first table, as an array of numbers; and so the other arguments. -/
abbrev snpArg : FVec Ideal S2x128 .f32 := m ((c.tc : Thread nD τ).loc main_arg3)
abbrev chromArg : FVec Ideal S24x128 .f32 := m ((c.tc : Thread nD τ).loc main_arg4)
abbrev valuesArg : IVec S1024x200 32 := m ((c.tc : Thread nD τ).loc main_arg0)
abbrev chromosomesArg : IVec S1024x200 32 := m ((c.tc : Thread nD τ).loc main_arg1)
abbrev positionsArg : IVec S1024x200 32 := m ((c.tc : Thread nD τ).loc main_arg2)

/-- The table's first two columns are the rows of the first table. -/
theorem table_snp (d : Fin 128) (a : Fin 2) : V m c main_v14 (ix2 d (⟨a.val, by omega⟩ : Fin 26)) = snpArg m c (ix2 a d) := by
  rw [V_table]
  pointwise

/-- Its others are the rows of the second table. -/
theorem table_chrom (d : Fin 128) (b : Fin 24) :
    V m c main_v14 (ix2 d (⟨b.val + 2, by omega⟩ : Fin 26)) = chromArg m c (ix2 b d) := by
  rw [V_table]
  pointwise
  rw [dif_neg (by omega)]
  rfl

/-- The inverse frequencies. -/
theorem freq_at (k : Fin 64) : V m c main_v12 (ix2 k 0) = ((Spec.freq k : ℝ) : EReal) := by
  rw [V_freq]
  pointwise
  exact Spec.freq_eq k

/-! ## The result -/

/-- The result of sequence `b` at its token `s` and coordinate `d`. -/
theorem result_at {b : Fin 1024} {s : Fin 200} {v : Fin 2} {k : Fin 24}
    (hv : valuesArg m c (ix2 b s) = BitVec.ofNat 32 v.val) (hk : chromosomesArg m c (ix2 b s) = BitVec.ofNat 32 k.val)
    {snp chrom : Fin 128 → ℝ} (hs : ∀ d, snpArg m c (ix2 v d) = (snp d : EReal)) (ht : ∀ d, chromArg m c (ix2 k d) = (chrom d : EReal))
    (d : Fin 128) :
    (result m c : FVec Ideal S1024x200x128 .f32) (ix3 b s d)
      = ((Spec.row snp chrom (positionsArg m c (ix2 b s) : BitVec 32).toInt d : ℝ) : EReal) := by
  have hb := b.isLt
  have hs' := s.isLt
  -- the token's grid point, row of tokens and place in the row
  have e : ∃ (n : Fin 16) (j : Fin 100) (l : Fin 128), 200 * b.val + s.val = 12800 * n.val + 128 * j.val + l.val :=
    ⟨⟨(200 * b.val + s.val) / 12800, by omega⟩, ⟨(200 * b.val + s.val) / 128 % 100, by omega⟩, ⟨(200 * b.val + s.val) % 128, by omega⟩,
      by simp only; omega⟩
  obtain ⟨n, j, l, e⟩ := e
  have hr : (result m c : FVec Ideal S1024x200x128 .f32) (ix3 b s d)
      = outBuf m c (ix2 (⟨200 * b.val + s.val, by omega⟩ : Fin 204800) d) := by
    refine shapeCast_apply (outBuf m c) shapeCasts_S204800x128_S1024x200x128 (ix3 b s d) _ ?_
    rw [Shape.rowMajor_val_two, Shape.rowMajor_val_three]
    show (200 * b.val + s.val) * 128 + d.val = (b.val * 200 + s.val) * 128 + d.val
    omega
  have h0 : rowOf (iblk m c 0 (gpt n)) j.isLt (ix3 0 0 l) = valuesArg m c (ix2 b s) := by
    rw [rowOf_at, values_at, V_values]; exact regroup_at _ n j l b s e
  have h1 : rowOf (iblk m c 1 (gpt n)) j.isLt (ix3 0 0 l) = chromosomesArg m c (ix2 b s) := by
    rw [rowOf_at, chromosomes_at, V_chromosomes]; exact regroup_at _ n j l b s e
  have h2 : rowOf (iblk m c 2 (gpt n)) j.isLt (ix3 0 0 l) = positionsArg m c (ix2 b s) := by
    rw [rowOf_at, positions_at, V_positions]; exact regroup_at _ n j l b s e
  rw [hr, outBuf, outVal_at _ _ _ _ _ n j.val j.isLt l d _ e, chunkOf,
    chunkVal_at (fun q => (invOf_at _ q).trans ((freqs_at m c n q).trans (freq_at m c q))) v.isLt k.isLt (h0.trans hv) (h1.trans hk)
      (fun q => (tabOf_at _ q _).trans ((table_at m c n q _).trans ((table_snp m c q v).trans (hs q))))
      (fun q => (tabOf_at _ q _).trans ((table_at m c n q _).trans ((table_chrom m c q k).trans (ht q)))) d, h2]

end Cert.KernelIdeal.Embed

end
-- ==== Proof.RefEncode.lean ====
/-
  The reference's encoding of the positions, read at an index.
-/
module

public import proofs.«01_k».proof.Proof.Gen.ReferenceIdeal.Read
public import proofs.«01_k».proof.Proof.Spec
public import Idealize.ShloMosaic.Lib.Pointwise

@[expose] public section

noncomputable section

namespace Cert.ReferenceIdeal.Token

open Cert.ReferenceIdeal Cert.ReferenceIdeal.Gen Cert.ReferenceIdeal.Read Idealize.ShloMosaic
open Cert Cert.Numbers

/-- The inverse frequencies. -/
theorem freq_at (k : Fin 64) : val_main_v11 (F := Ideal) (ix1 k) = ((Spec.freq k : ℝ) : EReal) := by
  pointwise [val_main_v11, val_main_v10, val_main_cst_2, val_main_v9, val_main_v8, val_main_cst_1, val_main_v7, val_main_v6,
    val_main_cst_0, val_main_v5, val_main_v4, val_main_cst, val_main_v3]
  exact Spec.freq_eq k

/-- The reduced angles. -/
theorem rest_at (x2 : IVec S1024x200 32) (b : Fin 1024) (l : Fin 200) (k : Fin 64) :
    val_main_v26 (F := Ideal) x2 (ix3 b l k)
      = ((Spec.rest (((x2 (ix2 b l) : BitVec 32).toInt : ℝ) * Spec.freq k) : ℝ) : EReal) := by
  pointwise [val_main_v26, val_main_v25, val_main_v24, val_main_v23, val_main_v22, val_main_v21, val_main_v20, val_main_v19,
    val_main_v18, val_main_v17, val_main_v16, val_main_v15, val_main_v14, val_main_v13, val_main_v12, val_main_cst_3,
    val_main_cst_4, val_main_cst_5]
  have hq : (FloatOps.sitofp FTy.f32 (x2 (ix2 b l) : BitVec 32) : Ideal .f32)
      = (((x2 (ix2 b l) : BitVec 32).toInt : ℝ) : EReal) := rfl
  rw [hq, freq_at, ofBits_word 0x3E22F983#32 (by decide), ofBits_word 0x40C80000#32 (by decide),
    ofBits_word 0x3D07ED51#32 (by decide)]
  generalize ((x2 (ix2 b l) : BitVec 32).toInt : ℝ) = q
  rw [← EReal.coe_mul, ← EReal.coe_mul, round_real, ← EReal.coe_mul, ← EReal.coe_mul, ← EReal.coe_add, ← EReal.coe_sub,
    Spec.rest, Spec.turns]

/-- The sine's polynomial, as a sum of powers. -/
theorem sine_at (x2 : IVec S1024x200 32) (b : Fin 1024) (l : Fin 200) (k : Fin 64) :
    val_main_v46 (F := Ideal) x2 (ix3 b l k)
      = ((Spec.sine (Spec.rest (((x2 (ix2 b l) : BitVec 32).toInt : ℝ) * Spec.freq k)) : ℝ) : EReal) := by
  pointwise [val_main_v46, val_main_v45, val_main_v44, val_main_v43, val_main_v42, val_main_v41, val_main_v40, val_main_v39,
    val_main_v38, val_main_v37, val_main_v36, val_main_v35, val_main_v34, val_main_v33, val_main_v32, val_main_v31, val_main_v30,
    val_main_v29, val_main_v28, val_main_v27, val_main_cst_6, val_main_cst_7, val_main_cst_8, val_main_cst_9]
  rw [rest_at, ofBits_word 0x3F7FE9D4#32 (by decide), ofBits_word 0x3E29B865#32 (by decide),
    ofBits_word 0x3C020041#32 (by decide), ofBits_word 0x3914D094#32 (by decide)]
  simp only [← EReal.coe_mul, ← EReal.coe_add, ← EReal.coe_sub]
  rw [EReal.coe_eq_coe_iff, Spec.sine]
  ring

/-- The cosine's polynomial, as a sum of powers. -/
theorem cosine_at (x2 : IVec S1024x200 32) (b : Fin 1024) (l : Fin 200) (k : Fin 64) :
    val_main_v62 (F := Ideal) x2 (ix3 b l k)
      = ((Spec.cosine (Spec.rest (((x2 (ix2 b l) : BitVec 32).toInt : ℝ) * Spec.freq k)) : ℝ) : EReal) := by
  pointwise [val_main_v62, val_main_v61, val_main_v60, val_main_v59, val_main_v58, val_main_v57, val_main_v56, val_main_v55,
    val_main_v54, val_main_v53, val_main_v52, val_main_v51, val_main_v50, val_main_v49, val_main_v48, val_main_v47,
    val_main_cst_10, val_main_cst_11, val_main_cst_12, val_main_cst_13]
  rw [rest_at, ofBits_word 0x3F7F435E#32 (by decide), ofBits_word 0x3EFBF54A#32 (by decide),
    ofBits_word 0x3D1CA050#32 (by decide), ofBits_word 0x3A6B275E#32 (by decide)]
  simp only [← EReal.coe_mul, ← EReal.coe_add, ← EReal.coe_sub]
  rw [EReal.coe_eq_coe_iff, Spec.cosine]
  ring

/-- The encoding: the sines, then the cosines. -/
theorem code_at (x2 : IVec S1024x200 32) (b : Fin 1024) (l : Fin 200) (d : Fin 128) :
    val_main_v63 (F := Ideal) x2 (ix3 b l d) = ((Spec.code (x2 (ix2 b l) : BitVec 32).toInt d : ℝ) : EReal) := by
  pointwise [val_main_v63]
  rw [Spec.code]
  split
  · exact sine_at x2 b l _
  · exact cosine_at x2 b l _

end Cert.ReferenceIdeal.Token

end
-- ==== Proof.RowGather.lean ====
/-
  A gather of whole rows of a table at a two-axis array of row numbers.
-/
module

public import Idealize.ShloMosaic.Lib.ValueIdxCore

@[expose] public section

noncomputable section

namespace Cert.RowGather

open Idealize.ShloMosaic Idealize.ShloMosaic.ValueIdx

variable {α : Type}

/-- The dimension numbers of that gather: a table of `N` rows of `L` numbers, `R × C` row numbers on a unit last axis. -/
abbrev dims (N L R C : ℕ)
    (wf : GatherDims.WF ⟨2, ![N, L]⟩ ⟨3, ![R, C, 1]⟩ ⟨3, ![R, C, L]⟩ [2] [0] [] [0] [] 2 ![1, L]) :
    GatherDims ⟨2, ![N, L]⟩ ⟨3, ![R, C, 1]⟩ ⟨3, ![R, C, L]⟩ where
  offsetDims := [2]
  collapsedSliceDims := [0]
  operandBatchingDims := []
  startIndicesBatchingDims := []
  startIndexMap := [0]
  indexVectorDim := 2
  sliceSizes := ![1, L]
  wf := wf

section
variable {N L R C : ℕ}
    (wf : GatherDims.WF ⟨2, ![N, L]⟩ ⟨3, ![R, C, 1]⟩ ⟨3, ![R, C, L]⟩ [2] [0] [] [0] [] 2 ![1, L])
    (r : Fin R) (c : Fin C) (l : Fin L)

/-- The row number of entry `(r, c, l)` is read at `(r, c)`. -/
theorem siIdx_eq (k : Fin (dims N L R C wf).startIndexMap.length) :
    (dims N L R C wf).siIdx (ix3 r c l) k = ix3 r c 0 := by
  have hk : k.val = 0 := Nat.lt_one_iff.1 k.isLt
  funext b
  apply Fin.ext
  match b with
  | ⟨0, _⟩ => rfl
  | ⟨1, _⟩ => rfl
  | ⟨2, _⟩ => exact hk

/-- On the table's first axis the slice starts at the row number, in range. -/
theorem start_row (idx : IVec ⟨3, ![R, C, 1]⟩ 32) {a : ℕ} (ha : a < N) (h : (idx (ix3 r c 0)).toInt.toNat = a) :
    (dims N L R C wf).start (ix3 r c l) idx (0 : Fin 2) = a := by
  have hm : (0 : Fin 2) ∈ (dims N L R C wf).startIndexMap := List.mem_singleton.2 rfl
  have e : (dims N L R C wf).start (ix3 r c l) idx (0 : Fin 2) = min (idx (ix3 r c 0)).toInt.toNat (N - 1) := by
    unfold GatherDims.start
    rw [dif_pos hm, siIdx_eq]
    rfl
  rw [e, h]
  omega

/-- Entry `(r, c, l)` is entry `l` of the row whose number, in range, stands at `(r, c)`. -/
theorem apply (x : (⟨2, ![N, L]⟩ : Shape).Idx → α) (idx : IVec ⟨3, ![R, C, 1]⟩ 32) {a : ℕ}
    (ha : a < N) (h : (idx (ix3 r c 0)).toInt.toNat = a) :
    Host.gather (dims N L R C wf) x idx (ix3 r c l) = x (ix2 ⟨a, ha⟩ l) := by
  have h0 : (dims N L R C wf).offCoord (ix3 r c l) (0 : Fin 2) = 0 :=
    GatherDims.offCoord_eq_zero _ _ _ fun k => ((GatherDims.mem_sKept _ _).1 k).1 (List.mem_singleton.2 rfl)
  have h1 : (dims N L R C wf).start (ix3 r c l) idx (1 : Fin 2) = 0 := by
    unfold GatherDims.start
    rw [dif_neg (by simp)]
  have hb : ∀ k, (dims N L R C wf).batchCoord (ix3 r c l) k = 0 := fun k =>
    GatherDims.batchCoord_eq_zero _ _ _ List.not_mem_nil
  unfold Host.gather
  refine congrArg x (funext fun k => Fin.ext ?_)
  match k with
  | ⟨0, _⟩ =>
    show (dims N L R C wf).start (ix3 r c l) idx (0 : Fin 2) + (dims N L R C wf).batchCoord (ix3 r c l) (0 : Fin 2)
      + (dims N L R C wf).offCoord (ix3 r c l) (0 : Fin 2) = a
    rw [start_row wf r c l idx ha h, hb, h0]
    rfl
  | ⟨1, _⟩ =>
    show (dims N L R C wf).start (ix3 r c l) idx (1 : Fin 2) + (dims N L R C wf).batchCoord (ix3 r c l) (1 : Fin 2)
      + l.val = l.val
    rw [h1, hb, Nat.zero_add]

end

end Cert.RowGather

end
-- ==== Proof.RefTake.lean ====
/-
  The reference's two table lookups: at row numbers in range, each is the table's row.
-/
module

public import proofs.«01_k».proof.Proof.Gen.ReferenceIdeal.Read
public import proofs.«01_k».proof.Proof.RowGather
public import Idealize.ShloMosaic.Lib.Pointwise
public import Idealize.ShloMosaic.Lib.ReduceAll

@[expose] public section

noncomputable section

namespace Cert.ReferenceIdeal.Token

open Cert.ReferenceIdeal Cert.ReferenceIdeal.Gen Cert.ReferenceIdeal.Read Idealize.ShloMosaic

/-- The row numbers of an array are below `n`. -/
def Below (n : ℕ) (x : IVec S1024x200 32) : Prop := ∀ i, ∃ a : Fin n, x i = BitVec.ofNat 32 a.val

/-- A row number of the first table in range is not moved, and passes the range check. -/
theorem snp_word : ∀ a : Fin 2,
    Scalar.select (IntOp.cmpi .slt (BitVec.ofNat 32 a.val) 0#32) (IntOp.addi (BitVec.ofNat 32 a.val) 2#32) (BitVec.ofNat 32 a.val)
        = BitVec.ofNat 32 a.val
      ∧ IntOp.andi (IntOp.cmpi .sge (BitVec.ofNat 32 a.val) 0#32) (IntOp.cmpi .sle (BitVec.ofNat 32 a.val) 1#32) = 1#1
      ∧ (BitVec.ofNat 32 a.val).toInt.toNat = a.val := by
  decide +kernel

/-- The same of the second table. -/
theorem chrom_word : ∀ a : Fin 24,
    Scalar.select (IntOp.cmpi .slt (BitVec.ofNat 32 a.val) 0#32) (IntOp.addi (BitVec.ofNat 32 a.val) 24#32) (BitVec.ofNat 32 a.val)
        = BitVec.ofNat 32 a.val
      ∧ IntOp.andi (IntOp.cmpi .sge (BitVec.ofNat 32 a.val) 0#32) (IntOp.cmpi .sle (BitVec.ofNat 32 a.val) 23#32) = 1#1
      ∧ (BitVec.ofNat 32 a.val).toInt.toNat = a.val := by
  decide +kernel

/-! ## The first table -/

theorem snp_index {x0 : IVec S1024x200 32} (h : Below 2 x0) (i : S1024x200.Idx) : val_main_call0_v4 (F := Ideal) x0 i = x0 i := by
  obtain ⟨a, ha⟩ := h i
  rw [val_main_call0_v4_apply, val_main_call0_v1_apply, val_main_call0_v3_apply, val_main_call0_v0_apply, val_main_call0_v2_apply,
    val_main_call0_c_apply, val_main_call0_c_0_apply, ha]
  exact (snp_word a).1

theorem snp_inRange {x0 : IVec S1024x200 32} (h : Below 2 x0) (i : S1024x200.Idx) : val_main_call0_v12 (F := Ideal) x0 i = 1#1 := by
  unfold val_main_call0_v12
  refine Host.reduce_andi_one _ _ _ _ _ rfl fun j => ?_
  obtain ⟨a, ha⟩ := h (idx_main_call0_v5 j)
  rw [val_main_call0_v11_apply, val_main_call0_v7_apply, val_main_call0_v10_apply, val_main_call0_v5_apply, snp_index h, ha,
    val_main_call0_v6_apply, val_main_call0_v9_apply, val_main_call0_v8_apply, val_main_call0_c_1_apply, val_main_call0_c_2_apply]
  exact (snp_word a).2.1

/-- The looked-up row of the first table. -/
theorem snp_at {x0 : IVec S1024x200 32} (h : Below 2 x0) (x3 : FVec Ideal S2x128 .f32) (b : Fin 1024) (l : Fin 200) (d : Fin 128)
    {a : Fin 2} (ha : x0 (ix2 b l) = BitVec.ofNat 32 a.val) :
    val_main_v0 (F := Ideal) x0 x3 (ix3 b l d) = x3 (ix2 a d) := by
  rw [val_main_v0_apply, val_main_call0_v14_apply, snp_inRange h]
  refine (if_pos rfl).trans ?_
  refine RowGather.apply gather_S2x128_S1024x200x1_S1024x200x128_2_0_n_n_0_2_1128.wf b l d x3 _ a.isLt ?_
  have hi : idx_main_call0_v5 (ValueIdx.ix3 b l 0) = ix2 b l := by
    funext k
    match k with
    | ⟨0, _⟩ => rfl
    | ⟨1, _⟩ => rfl
  rw [val_main_call0_v5_apply, snp_index h, hi]
  exact (congrArg (fun w : BitVec 32 => w.toInt.toNat) ha).trans (snp_word a).2.2

/-! ## The second table -/

theorem chrom_index {x1 : IVec S1024x200 32} (h : Below 24 x1) (i : S1024x200.Idx) :
    val_main_call1_v4 (F := Ideal) x1 i = x1 i := by
  obtain ⟨a, ha⟩ := h i
  rw [val_main_call1_v4_apply, val_main_call1_v1_apply, val_main_call1_v3_apply, val_main_call1_v0_apply, val_main_call1_v2_apply,
    val_main_call1_c_apply, val_main_call1_c_0_apply, ha]
  exact (chrom_word a).1

theorem chrom_inRange {x1 : IVec S1024x200 32} (h : Below 24 x1) (i : S1024x200.Idx) :
    val_main_call1_v12 (F := Ideal) x1 i = 1#1 := by
  unfold val_main_call1_v12
  refine Host.reduce_andi_one _ _ _ _ _ rfl fun j => ?_
  obtain ⟨a, ha⟩ := h (idx_main_call1_v5 j)
  rw [val_main_call1_v11_apply, val_main_call1_v7_apply, val_main_call1_v10_apply, val_main_call1_v5_apply, chrom_index h, ha,
    val_main_call1_v6_apply, val_main_call1_v9_apply, val_main_call1_v8_apply, val_main_call1_c_1_apply, val_main_call1_c_2_apply]
  exact (chrom_word a).2.1

/-- The looked-up row of the second table. -/
theorem chrom_at {x1 : IVec S1024x200 32} (h : Below 24 x1) (x4 : FVec Ideal S24x128 .f32) (b : Fin 1024) (l : Fin 200)
    (d : Fin 128) {a : Fin 24} (ha : x1 (ix2 b l) = BitVec.ofNat 32 a.val) :
    val_main_v1 (F := Ideal) x1 x4 (ix3 b l d) = x4 (ix2 a d) := by
  rw [val_main_v1_apply, val_main_call1_v14_apply, chrom_inRange h]
  refine (if_pos rfl).trans ?_
  refine RowGather.apply gather_S24x128_S1024x200x1_S1024x200x128_2_0_n_n_0_2_1128.wf b l d x4 _ a.isLt ?_
  have hi : idx_main_call1_v5 (ValueIdx.ix3 b l 0) = ix2 b l := by
    funext k
    match k with
    | ⟨0, _⟩ => rfl
    | ⟨1, _⟩ => rfl
  rw [val_main_call1_v5_apply, chrom_index h, hi]
  exact (congrArg (fun w : BitVec 32 => w.toInt.toNat) ha).trans (chrom_word a).2.2

end Cert.ReferenceIdeal.Token

end
-- ==== Proof.RefToken.lean ====
/-
  The reference's result at a token and a coordinate: the layer norm of the token's two table rows and its encoding.
-/
module

public import proofs.«01_k».proof.Proof.RefEncode
public import proofs.«01_k».proof.Proof.RefTake

@[expose] public section

noncomputable section

namespace Cert.ReferenceIdeal.Token

open Cert.ReferenceIdeal Cert.ReferenceIdeal.Gen Cert.ReferenceIdeal.Read Idealize.ShloMosaic
open Cert Cert.Numbers

/-- A token before the layer norm. -/
theorem token_at {x0 x1 : IVec S1024x200 32} (x2 : IVec S1024x200 32) {x3 : FVec Ideal S2x128 .f32} {x4 : FVec Ideal S24x128 .f32}
    (h0 : Below 2 x0) (h1 : Below 24 x1) {b : Fin 1024} {l : Fin 200} {v : Fin 2} {c : Fin 24}
    (hv : x0 (ix2 b l) = BitVec.ofNat 32 v.val) (hc : x1 (ix2 b l) = BitVec.ofNat 32 c.val) {snp chrom : Fin 128 → ℝ}
    (hs : ∀ d, x3 (ix2 v d) = (snp d : EReal)) (ht : ∀ d, x4 (ix2 c d) = (chrom d : EReal)) (d : Fin 128) :
    val_main_v64 (F := Ideal) x0 x1 x2 x3 x4 (ix3 b l d)
      = ((Spec.token snp chrom (x2 (ix2 b l) : BitVec 32).toInt d : ℝ) : EReal) := by
  pointwise [val_main_v64, val_main_v2]
  rw [snp_at h0 x3 b l d hv, chrom_at h1 x4 b l d hc, code_at, hs, ht, ← EReal.coe_add, ← EReal.coe_add, Spec.token]

/-- The result. -/
theorem result_at {x0 x1 : IVec S1024x200 32} (x2 : IVec S1024x200 32) {x3 : FVec Ideal S2x128 .f32} {x4 : FVec Ideal S24x128 .f32}
    {x5 x6 : FVec Ideal S128 .f32} (h0 : Below 2 x0) (h1 : Below 24 x1) {b : Fin 1024} {l : Fin 200} {v : Fin 2} {c : Fin 24}
    (hv : x0 (ix2 b l) = BitVec.ofNat 32 v.val) (hc : x1 (ix2 b l) = BitVec.ofNat 32 c.val) {snp chrom : Fin 128 → ℝ}
    (hs : ∀ d, x3 (ix2 v d) = (snp d : EReal)) (ht : ∀ d, x4 (ix2 c d) = (chrom d : EReal))
    (h5 : ∀ d, x5 (ix1 d) = 1) (h6 : ∀ d, x6 (ix1 d) = 0) (d : Fin 128) :
    val_main_v88 (F := Ideal) x0 x1 x2 x3 x4 x5 x6 (ix3 b l d)
      = ((Spec.row snp chrom (x2 (ix2 b l) : BitVec 32).toInt d : ℝ) : EReal) := by
  have he := token_at x2 h0 h1 hv hc hs ht
  pointwise [val_main_v88, val_main_v87, val_main_v86, val_main_v85, val_main_v84, val_main_v83, val_main_v82, val_main_v81,
    val_main_v80, val_main_v79, val_main_v78, val_main_v77, val_main_v76, val_main_v75, val_main_v74, val_main_v73, val_main_v72,
    val_main_v71, val_main_v70, val_main_v69, val_main_v68, val_main_v67, val_main_v66, val_main_v65, val_main_cst_14,
    val_main_cst_15, val_main_cst_16, val_main_cst_17, val_main_cst_18]
  simp only [he, h5, h6, mul_one, add_zero]
  rw [ofBits_word 0x43000000#32 (by decide), word_128, ofBits_word 0x3727C5AC#32 (by decide)]
  exact normed_twoPass word_eps_pos _ d

end Cert.ReferenceIdeal.Token

end
-- ==== Proof.Drawn.lean ====
/-
  What the precondition says of the arguments: the two integer arrays are in range, the two tables hold finite numbers,
  the layer norm's scale is one and its shift zero.
-/
module

public import proofs.«01_k».proof.Defs
public import Idealize.ShloMosaic.Lib.Pointwise
public import Idealize.ShloMosaic.Lib.Affine
public import Idealize.ShloMosaic.Lib.StableHlo.Predicate

@[expose] public section

set_option maxRecDepth 16384

noncomputable section

namespace Cert.Drawn

open Idealize.ShloMosaic
open Cert

/-- The shape relations of the precondition's operations. -/
theorem facts : Pre_drawn.Facts where
  bcast_S_S1024x200 := by decide
  bcast_S_S2x128 := by decide
  bcast_S_S24x128 := by decide
  bcast_S_S128 := by decide

/-- A word at least zero and below a small `n` is a number below `n`. -/
theorem below_of_range {n : ℕ} (hn : n < 2 ^ 31) (x : BitVec 32) (h0 : 0 ≤ x.toInt) (h1 : x.toInt < n) :
    ∃ a : Fin n, x = BitVec.ofNat 32 a.val := by
  have hx := x.isLt
  have e : x.toInt = x.toNat := by
    rw [BitVec.toInt_eq_toNat_cond] at h0 ⊢
    split_ifs at h0 ⊢ <;> omega
  exact ⟨⟨x.toNat, by omega⟩, by simp⟩

/-- A number whose absolute value is below the infinity's word is a real. -/
theorem real_of_abs_lt (x : EReal) (h : max x (-x) < Ideal.ofBits FTy.f32 0x7F800000#32) : x = ((x.toReal : ℝ) : EReal) := by
  have e : Ideal.ofBits FTy.f32 0x7F800000#32 = (⊤ : EReal) := by
    simp [Ideal.ofBits, Ideal.ieee]
  rw [e] at h
  induction x using EReal.rec with
  | bot => simp at h
  | coe a => rfl
  | top => simp at h

section
variable [Pre_drawn.Facts] {x0 x1 x2 : IVec Pre_drawn.S1024x200 32} {x3 : FVec Ideal Pre_drawn.S2x128 .f32}
  {x4 : FVec Ideal Pre_drawn.S24x128 .f32} {x5 x6 : FVec Ideal Pre_drawn.S128 .f32}

/-- The values are below two. -/
theorem values_below (h : (Pre_drawn.fn (F := Ideal) x0 x1 x2 x3 x4 x5 x6).1 = fun _ => 1#1) (b : Fin 1024) (s : Fin 200) :
    ∃ a : Fin 2, x0 (ix2 b s) = BitVec.ofNat 32 a.val := by
  have e := congrFun h (ix2 b s)
  revert e
  pointwise [Pre_drawn.fn, Pre_drawn.fn_part1]
  intro e
  rw [IntOp.andi_eq_one, IntOp.cmpi_sge, IntOp.cmpi_slt] at e
  exact below_of_range (by decide) _ e.1 e.2

/-- The chromosomes are below twenty-four. -/
theorem chromosomes_below (h : (Pre_drawn.fn (F := Ideal) x0 x1 x2 x3 x4 x5 x6).2.1 = fun _ => 1#1) (b : Fin 1024) (s : Fin 200) :
    ∃ a : Fin 24, x1 (ix2 b s) = BitVec.ofNat 32 a.val := by
  have e := congrFun h (ix2 b s)
  revert e
  pointwise [Pre_drawn.fn, Pre_drawn.fn_part1]
  intro e
  rw [IntOp.andi_eq_one, IntOp.cmpi_sge, IntOp.cmpi_slt] at e
  exact below_of_range (by decide) _ e.1 e.2

/-- The first table's entries are reals. -/
theorem snp_real (h : (Pre_drawn.fn (F := Ideal) x0 x1 x2 x3 x4 x5 x6).2.2.1 = fun _ => 1#1) (a : Fin 2) (d : Fin 128) :
    x3 (ix2 a d) = (((x3 (ix2 a d) : EReal).toReal : ℝ) : EReal) := by
  have e := congrFun h (ix2 a d)
  revert e
  pointwise [Pre_drawn.fn, Pre_drawn.fn_part1]
  intro e
  exact real_of_abs_lt _ (of_decide_eq_true ((StableHlo.Predicate.ofBool_eq_one_iff _).mp e))

/-- The second table's entries are reals. -/
theorem chrom_real (h : (Pre_drawn.fn (F := Ideal) x0 x1 x2 x3 x4 x5 x6).2.2.2.1 = fun _ => 1#1) (a : Fin 24) (d : Fin 128) :
    x4 (ix2 a d) = (((x4 (ix2 a d) : EReal).toReal : ℝ) : EReal) := by
  have e := congrFun h (ix2 a d)
  revert e
  pointwise [Pre_drawn.fn, Pre_drawn.fn_part1]
  intro e
  exact real_of_abs_lt _ (of_decide_eq_true ((StableHlo.Predicate.ofBool_eq_one_iff _).mp e))

/-- The scale is one. -/
theorem gamma_one (h : (Pre_drawn.fn (F := Ideal) x0 x1 x2 x3 x4 x5 x6).2.2.2.2.1 = fun _ => 1#1) (d : Fin 128) :
    (x5 (ix1 d) : EReal) = 1 := by
  have e := congrFun h (ix1 d)
  revert e
  pointwise [Pre_drawn.fn, Pre_drawn.fn_part1]
  intro e
  exact of_decide_eq_true ((StableHlo.Predicate.ofBool_eq_one_iff _).mp e)

/-- The shift is zero. -/
theorem beta_zero (h : (Pre_drawn.fn (F := Ideal) x0 x1 x2 x3 x4 x5 x6).2.2.2.2.2 = fun _ => 1#1) (d : Fin 128) :
    (x6 (ix1 d) : EReal) = 0 := by
  have e := congrFun h (ix1 d)
  revert e
  pointwise [Pre_drawn.fn, Pre_drawn.fn_part1]
  intro e
  exact of_decide_eq_true ((StableHlo.Predicate.ofBool_eq_one_iff _).mp e)

end

end Cert.Drawn

end
-- ==== Proof.Equation.lean ====
/-
  The equation: of arguments the precondition holds of, the idealized kernel's result is the idealized reference's.
-/
module

public import proofs.«01_k».proof.Proof.KernelToken
public import proofs.«01_k».proof.Proof.RefToken
public import proofs.«01_k».proof.Proof.Drawn
public import proofs.«01_k».proof.Proof.Gen.ReferenceIdeal.Run

@[expose] public section

set_option maxRecDepth 16384

noncomputable section

namespace Cert.Proof

open Idealize.ShloMosaic Idealize.ShloMosaic.TcCoe
open Idealize.SL.Sem
open Cert
open Cert.KernelIdeal (nD τ sig main_arg0 main_arg1 main_arg2 main_arg3 main_arg4 main_arg5 main_arg6)

section
variable [Cert.Pre_drawn.Facts] (m : (ℓ : Loc nD τ sig) → Buf (Elt Ideal) ℓ)

/-- The kernel's result is the reference's last value, of the kernel's arguments. -/
theorem result_eq (h : Cert.Pre_KernelIdeal_drawn m) (c : Dev nD) :
    (KernelIdeal.Embed.result m c : FVec Ideal KernelIdeal.S1024x200x128 .f32)
      = ReferenceIdeal.Read.val_main_v88 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  obtain ⟨p0, p1, p3, p4, p5, p6⟩ := h c
  have below0 := Drawn.values_below p0
  have below1 := Drawn.chromosomes_below p1
  funext i
  obtain ⟨b, s, d, rfl⟩ : ∃ (b : Fin 1024) (s : Fin 200) (d : Fin 128), i = ix3 b s d :=
    ⟨i 0, i 1, i 2, funext fun | 0 => rfl | 1 => rfl | 2 => rfl⟩
  obtain ⟨v, hv⟩ := below0 b s
  obtain ⟨k, hk⟩ := below1 b s
  have eta : ∀ q : KernelIdeal.S1024x200.Idx, q = ix2 (q 0 : Fin 1024) (q 1 : Fin 200) := fun q => funext fun | 0 => rfl | 1 => rfl
  refine (KernelIdeal.Embed.result_at m c hv hk (Drawn.snp_real p3 v) (Drawn.chrom_real p4 k) d).trans (Eq.symm ?_)
  refine ReferenceIdeal.Token.result_at _ (fun q => ?_) (fun q => ?_) hv hk (Drawn.snp_real p3 v) (Drawn.chrom_real p4 k)
    (Drawn.gamma_one p5) (Drawn.beta_zero p6) d
  · rw [eta q]; exact below0 _ _
  · rw [eta q]; exact below1 _ _

end

/-- Over the reals the kernel and the reference end with the same result. -/
theorem algebraic [Cert.Pre_drawn.Facts] : Cert.algebraic_KernelIdeal_ReferenceIdeal_pre_drawn (hKernelIdeal := Cert.KernelIdeal.Gen.facts)
    (hReferenceIdeal := Cert.ReferenceIdeal.Gen.facts) := by
  intro m g m' g' hpre hargs
  refine ⟨fun c => KernelIdeal.Embed.result m c, KernelIdeal.Embed.run_result m g,
    (θ_run Cert.ReferenceIdeal.defs _ _).mono (fun r h c => ⟨?_, (h c).2⟩) (ReferenceIdeal.Value.run (F := Ideal) m' g')⟩
  obtain ⟨a0, a1, a2, a3, a4, a5, a6⟩ := hargs c
  refine ((h c).1.trans (ReferenceIdeal.Read.val_main_v88_eq _)).trans ?_
  have e := result_eq m hpre c
  rw [← a0, ← a1, ← a2, ← a3, ← a4, ← a5, ← a6] at e
  exact e.symm

end Cert.Proof

end
-- ==== Proof.Taylor.lean ====
/-
  The sine and the cosine of a number of size at most 16/5, up to a millionth: the first terms of their series.
-/
module

public import Mathlib.Analysis.Complex.Exponential
public import Mathlib.Analysis.Complex.Trigonometric
public import Mathlib.Tactic.NormNum
public import Mathlib.Tactic.Ring
public import Mathlib.Tactic.Linarith

@[expose] public section

noncomputable section

namespace Cert.Taylor

open scoped BigOperators

/-- The sine's series up to degree 17. -/
def sinSum (x : ℝ) : ℝ := ∑ m ∈ Finset.range 9, (-1) ^ m * x ^ (2 * m + 1) / (2 * m + 1).factorial

/-- The cosine's series up to degree 16. -/
def cosSum (x : ℝ) : ℝ := ∑ m ∈ Finset.range 9, (-1) ^ m * x ^ (2 * m) / (2 * m).factorial

/-- The exponential's series up to degree 17, at an imaginary number, is the two sums. -/
theorem expSum_eq (x : ℝ) :
    ∑ m ∈ Finset.range 18, ((x : ℂ) * Complex.I) ^ m / (m.factorial : ℂ) = (cosSum x : ℂ) + (sinSum x : ℂ) * Complex.I := by
  have h : ∀ n : ℕ, ∑ m ∈ Finset.range (2 * n), ((x : ℂ) * Complex.I) ^ m / (m.factorial : ℂ)
      = ((∑ m ∈ Finset.range n, (-1) ^ m * x ^ (2 * m) / (2 * m).factorial : ℝ) : ℂ)
        + ((∑ m ∈ Finset.range n, (-1) ^ m * x ^ (2 * m + 1) / (2 * m + 1).factorial : ℝ) : ℂ) * Complex.I := by
    intro n
    induction n with
    | zero => simp
    | succ n ih =>
      have e : ((x : ℂ) * Complex.I) ^ (2 * n) = (-1) ^ n * (x : ℂ) ^ (2 * n) := by
        rw [mul_pow, pow_mul Complex.I, Complex.I_sq, mul_comm]
      rw [show 2 * (n + 1) = 2 * n + 1 + 1 from rfl, Finset.sum_range_succ, Finset.sum_range_succ, ih, Finset.sum_range_succ,
        Finset.sum_range_succ, pow_succ ((x : ℂ) * Complex.I) (2 * n), e]
      push_cast
      ring
  exact h 9

/-- The exponential at an imaginary number is near that. -/
theorem exp_near {x : ℝ} (hx : |x| ≤ 16 / 5) :
    ‖Complex.exp ((x : ℂ) * Complex.I) - ((cosSum x : ℂ) + (sinSum x : ℂ) * Complex.I)‖ ≤ |x| ^ 18 / 3201186852864000 := by
  have hn : ‖(x : ℂ) * Complex.I‖ = |x| := by simp
  rw [← expSum_eq]
  refine (Complex.exp_bound' ?_).trans ?_
  · rw [hn]
    push_cast
    linarith
  · rw [hn]
    have f : ((18).factorial : ℝ) = 6402373705728000 := by norm_num [Nat.factorial]
    rw [f]
    linarith

/-- The error is below a millionth. -/
theorem error_le {x : ℝ} (hx : |x| ≤ 16 / 5) : |x| ^ 18 / 3201186852864000 ≤ 1 / 1000000 := by
  have h : |x| ^ 18 ≤ (16 / 5) ^ 18 := pow_le_pow_left₀ (abs_nonneg x) hx 18
  have p : (16 / 5 : ℝ) ^ 18 ≤ 2000000000 := by norm_num
  linarith

theorem sin_near {x : ℝ} (hx : |x| ≤ 16 / 5) : |Real.sin x - sinSum x| ≤ 1 / 1000000 := by
  refine le_trans (le_of_eq ?_) (((Complex.abs_im_le_norm _).trans (exp_near hx)).trans (error_le hx))
  simp [Complex.exp_ofReal_mul_I_im]

/-- The cosine, with the error as it depends on the number. -/
theorem cos_nearer {x : ℝ} (hx : |x| ≤ 16 / 5) : |Real.cos x - cosSum x| ≤ |x| ^ 18 / 3201186852864000 := by
  refine le_trans (le_of_eq ?_) ((Complex.abs_re_le_norm _).trans (exp_near hx))
  simp [Complex.exp_ofReal_mul_I_re]

theorem cos_near {x : ℝ} (hx : |x| ≤ 16 / 5) : |Real.cos x - cosSum x| ≤ 1 / 1000000 := (cos_nearer hx).trans (error_le hx)

end Cert.Taylor

end
-- ==== Proof.PolyBound.lean ====
/-
  A polynomial with rational coefficients is small on an interval: cut the interval into equal parts, move the
  polynomial to the middle of each, and bound it there by the sum of its terms' sizes.
-/
module

public import Mathlib.Algebra.Order.Archimedean.Real.Basic
public import Mathlib.Algebra.Order.Floor.Semiring
public import Mathlib.Tactic.FieldSimp
public import Mathlib.Tactic.Positivity
public import Mathlib.Tactic.NormNum
public import Mathlib.Tactic.Ring
public import Mathlib.Tactic.Linarith

@[expose] public section

namespace Cert.PolyBound

/-- The value at `x` of the polynomial with the coefficients `p`, the constant one first. -/
noncomputable def value : List ℚ → ℝ → ℝ
  | [], _ => 0
  | a :: p, x => (a : ℝ) + x * value p x

/-- The product with `c + t` of the polynomial `q` in `t`, plus `a`. -/
def step (a c : ℚ) : ℚ → List ℚ → List ℚ
  | b, [] => [a + b]
  | b, q :: qs => (a + b + c * q) :: step 0 c q qs

/-- The coefficients in `t` of the polynomial at `c + t`. -/
def shift (c : ℚ) : List ℚ → List ℚ
  | [] => []
  | a :: p => step a c 0 (shift c p)

/-- The sum of the sizes of the terms at a number of size at most `h`. -/
def size (h : ℚ) : List ℚ → ℚ
  | [] => 0
  | a :: p => |a| + h * size h p

theorem value_step (c : ℚ) (t : ℝ) (qs : List ℚ) :
    ∀ a b : ℚ, value (step a c b qs) t = a + b + (c + t) * value qs t := by
  induction qs with
  | nil => intro a b; simp [step, value]
  | cons q qs ih =>
    intro a b
    have h := ih 0 q
    simp only [step, value] at h ⊢
    rw [h]
    push_cast
    ring

theorem value_shift (c : ℚ) (t : ℝ) (p : List ℚ) : value (shift c p) t = value p (c + t) := by
  induction p with
  | nil => rfl
  | cons a p ih =>
    have h := value_step c t (shift c p) a 0
    rw [ih] at h
    refine h.trans ?_
    simp [value]

theorem abs_value_le {h : ℚ} {t : ℝ} (ht : |t| ≤ h) (p : List ℚ) : |value p t| ≤ (size h p : ℝ) := by
  induction p with
  | nil => simp [value, size]
  | cons a p ih =>
    have e : value (a :: p) t = a + t * value p t := rfl
    have s : size h (a :: p) = |a| + h * size h p := rfl
    rw [e, s]
    push_cast
    refine (abs_add_le _ _).trans (add_le_add le_rfl ?_)
    rw [abs_mul]
    exact mul_le_mul ht ih (abs_nonneg _) ((abs_nonneg t).trans ht)

/-- On the interval around zero made of `2 n` parts of width `2 h`, the polynomial is at most `b` in size if it is so on every part. -/
theorem abs_value_le_of_parts (p : List ℚ) (n : ℕ) (h b : ℚ) (hh : 0 < h)
    (hp : ∀ i : Fin (2 * n), size h (shift ((2 * (i.val : ℚ) + 1 - 2 * n) * h) p) ≤ b) {x : ℝ} (hx : |x| < 2 * n * h) :
    |value p x| ≤ b := by
  have hR : (0 : ℝ) < h := by exact_mod_cast hh
  obtain ⟨lo, hi⟩ := abs_lt.1 hx
  have h0 : 0 ≤ x / (2 * h) + n := by
    have : -(n : ℝ) ≤ x / (2 * h) := by rw [le_div_iff₀ (by positivity)]; linarith
    linarith
  have f0 := Nat.floor_le h0
  have f1 := Nat.lt_floor_add_one (x / (2 * (h : ℝ)) + n)
  have hlt : ⌊x / (2 * (h : ℝ)) + n⌋₊ < 2 * n := by
    rw [Nat.floor_lt h0]
    have : x / (2 * h) < n := by rw [div_lt_iff₀ (by positivity)]; linarith
    push_cast
    linarith
  generalize ⌊x / (2 * (h : ℝ)) + n⌋₊ = i at f0 f1 hlt
  have hi' := hp ⟨i, hlt⟩
  have d : x = x / (2 * h) * (2 * h) := by field_simp
  have ht : |x - (((2 * (i : ℚ) + 1 - 2 * n) * h : ℚ) : ℝ)| ≤ h := by
    push_cast
    rw [abs_le]
    constructor
    · nlinarith
    · nlinarith
  have v := value_shift ((2 * (i : ℚ) + 1 - 2 * n) * h) (x - (((2 * (i : ℚ) + 1 - 2 * n) * h : ℚ) : ℝ)) p
  rw [add_sub_cancel] at v
  rw [← v]
  exact (abs_value_le ht _).trans (by exact_mod_cast hi')

end Cert.PolyBound

end
-- ==== Proof.Approx.lean ====
/-
  The encoding's two polynomials are within 0.003 of the sine and the cosine, on the numbers of size below 16/5.
-/
module

public import proofs.«01_k».proof.Proof.Spec
public import proofs.«01_k».proof.Proof.Taylor
public import proofs.«01_k».proof.Proof.PolyBound

@[expose] public section

noncomputable section

namespace Cert.Approx

open Idealize.ShloMosaic
open Cert Cert.Numbers Cert.Taylor Cert.PolyBound

/-! ## The coefficients as fractions -/

theorem sin1 : word 0x3F7FE9D4#32 = 4192885 / 4194304 := by
  unfold word; simp [Ideal.ofBits, Ideal.ieee, EReal.toReal_mul]; norm_num

theorem sin3 : word 0x3E29B865#32 = 11122789 / 67108864 := by
  unfold word; simp [Ideal.ofBits, Ideal.ieee, EReal.toReal_mul]; norm_num

theorem sin5 : word 0x3C020041#32 = 8519745 / 1073741824 := by
  unfold word; simp [Ideal.ofBits, Ideal.ieee, EReal.toReal_mul]; norm_num

theorem sin7 : word 0x3914D094#32 = 2438181 / 17179869184 := by
  unfold word; simp [Ideal.ofBits, Ideal.ieee, EReal.toReal_mul]; norm_num

theorem cos0 : word 0x3F7F435E#32 = 8364463 / 8388608 := by
  unfold word; simp [Ideal.ofBits, Ideal.ieee, EReal.toReal_mul]; norm_num

theorem cos2 : word 0x3EFBF54A#32 = 8256165 / 16777216 := by
  unfold word; simp [Ideal.ofBits, Ideal.ieee, EReal.toReal_mul]; norm_num

theorem cos4 : word 0x3D1CA050#32 = 641541 / 16777216 := by
  unfold word; simp [Ideal.ofBits, Ideal.ieee, EReal.toReal_mul]; norm_num

theorem cos6 : word 0x3A6B275E#32 = 7705519 / 8589934592 := by
  unfold word; simp [Ideal.ofBits, Ideal.ieee, EReal.toReal_mul]; norm_num

/-! ## The differences from the series -/

/-- The sine's polynomial less the sine's series. -/
def sinDiff : List ℚ :=
  [0, 4192885 / 4194304 - 1, 0, 1 / 6 - 11122789 / 67108864, 0, 8519745 / 1073741824 - 1 / 120, 0, 1 / 5040 - 2438181 / 17179869184,
    0, -1 / 362880, 0, 1 / 39916800, 0, -1 / 6227020800, 0, 1 / 1307674368000, 0, -1 / 355687428096000]

/-- The cosine's polynomial less the cosine's series. -/
def cosDiff : List ℚ :=
  [8364463 / 8388608 - 1, 0, 1 / 2 - 8256165 / 16777216, 0, 641541 / 16777216 - 1 / 24, 0, 1 / 720 - 7705519 / 8589934592,
    0, -1 / 40320, 0, 1 / 3628800, 0, -1 / 479001600, 0, 1 / 87178291200, 0, -1 / 20922789888000]

theorem sinDiff_value (x : ℝ) : value sinDiff x = Spec.sine x - sinSum x := by
  simp only [Spec.sine, sin1, sin3, sin5, sin7, sinSum, sinDiff, value, Finset.sum_range_succ, Finset.sum_range_zero, Nat.factorial]
  push_cast
  ring

theorem cosDiff_value (x : ℝ) : value cosDiff x = Spec.cosine x - cosSum x := by
  simp only [Spec.cosine, cos0, cos2, cos4, cos6, cosSum, cosDiff, value, Finset.sum_range_succ, Finset.sum_range_zero, Nat.factorial]
  push_cast
  ring

theorem sinDiff_parts : ∀ i : Fin (2 * 32), size (1 / 20) (shift ((2 * (i.val : ℚ) + 1 - 2 * (32 : ℕ)) * (1 / 20)) sinDiff) ≤ 73 / 25000 := by
  decide +kernel

theorem cosDiff_parts : ∀ i : Fin (2 * 32), size (1 / 20) (shift ((2 * (i.val : ℚ) + 1 - 2 * (32 : ℕ)) * (1 / 20)) cosDiff) ≤ 73 / 25000 := by
  decide +kernel

/-! ## The distances -/

theorem sine_near {x : ℝ} (hx : |x| < 16 / 5) : |Spec.sine x - Real.sin x| ≤ 73 / 25000 + 1 / 1000000 := by
  have h := abs_value_le_of_parts sinDiff 32 (1 / 20) (73 / 25000) (by norm_num) sinDiff_parts (x := x) (by push_cast; linarith)
  rw [sinDiff_value] at h
  have t := sin_near hx.le
  push_cast at h
  rw [abs_le] at h t ⊢
  constructor <;> linarith

theorem cosine_near {x : ℝ} (hx : |x| < 16 / 5) : |Spec.cosine x - Real.cos x| ≤ 73 / 25000 + 1 / 1000000 := by
  have h := abs_value_le_of_parts cosDiff 32 (1 / 20) (73 / 25000) (by norm_num) cosDiff_parts (x := x) (by push_cast; linarith)
  rw [cosDiff_value] at h
  have t := cos_near hx.le
  push_cast at h
  rw [abs_le] at h t ⊢
  constructor <;> linarith

end Cert.Approx

end
-- ==== Proof.Turn.lean ====
/-
  Taking whole turns off an angle: the encoding's turn is a turn up to 4e-10, so for the angles of the positions below
  a million the encoding is within 0.003 of the sine and the cosine of the angle itself.
-/
module

public import proofs.«01_k».proof.Proof.Approx
public import Mathlib.Analysis.SpecialFunctions.Trigonometric.Basic
public import Mathlib.Analysis.SpecialFunctions.Pow.Real

@[expose] public section

noncomputable section

namespace Cert.Turn

open Idealize.ShloMosaic
open Cert Cert.Numbers Cert.Taylor

/-! ## The constants -/

theorem word_two : word 0x40000000#32 = 2 := by
  unfold word; simp [Ideal.ofBits, Ideal.ieee, EReal.toReal_mul]; norm_num

theorem perTurn : word 0x3E22F983#32 = 10680707 / 67108864 := by
  unfold word; simp [Ideal.ofBits, Ideal.ieee, EReal.toReal_mul]; norm_num

theorem turn_high : word 0x40C80000#32 = 25 / 4 := by
  unfold word; simp [Ideal.ofBits, Ideal.ieee, EReal.toReal_mul]; norm_num

theorem turn_low : word 0x3D07ED51#32 = 8908113 / 268435456 := by
  unfold word; simp [Ideal.ofBits, Ideal.ieee, EReal.toReal_mul]; norm_num

/-! ## Small angles -/

/-- The sine of a number of size at most one is at least four fifths of it in size. -/
theorem abs_le_sin {y : ℝ} (hy : |y| ≤ 1) : 4 / 5 * |y| ≤ |Real.sin y| := by
  have h := Real.sin_bound hy
  have h3 : |y ^ 3| ≤ |y| := by
    rw [abs_pow]
    exact pow_le_of_le_one (abs_nonneg y) hy (by norm_num)
  have h5 : |y| ^ 5 ≤ |y| := pow_le_of_le_one (abs_nonneg y) hy (by norm_num)
  have e : |y| ≤ |Real.sin y| + |Real.sin y - (y - y ^ 3 / 6)| + |y ^ 3| / 6 := by
    have e6 : |y ^ 3 / 6| = |y ^ 3| / 6 := by rw [abs_div]; norm_num
    calc |y| = |Real.sin y - (Real.sin y - (y - y ^ 3 / 6)) + y ^ 3 / 6| := by congr 1; ring
      _ ≤ |Real.sin y - (Real.sin y - (y - y ^ 3 / 6))| + |y ^ 3 / 6| := abs_add_le _ _
      _ ≤ _ := by rw [e6]; gcongr; exact abs_sub _ _
  linarith [abs_nonneg y]

/-- The sine of a number of size at most a tenth is at most 1.01 times it in size. -/
theorem sin_le_abs {y : ℝ} (hy : |y| ≤ 1 / 10) : |Real.sin y| ≤ 101 / 100 * |y| := by
  have h := Real.sin_bound (hy.trans (by norm_num))
  have h2 : |y| ^ 2 ≤ 1 / 100 := (pow_le_pow_left₀ (abs_nonneg y) hy 2).trans (by norm_num)
  have h4 : |y| ^ 4 ≤ 1 / 10000 := (pow_le_pow_left₀ (abs_nonneg y) hy 4).trans (by norm_num)
  have h3 : |y ^ 3| ≤ 1 / 100 * |y| := by
    rw [abs_pow, pow_succ]
    exact mul_le_mul_of_nonneg_right h2 (abs_nonneg y)
  have h5 : |y| ^ 5 ≤ 1 / 10000 * |y| := by
    rw [pow_succ]
    exact mul_le_mul_of_nonneg_right h4 (abs_nonneg y)
  have e : |Real.sin y| ≤ |Real.sin y - (y - y ^ 3 / 6)| + |y| + |y ^ 3| / 6 := by
    have e6 : |y ^ 3 / 6| = |y ^ 3| / 6 := by rw [abs_div]; norm_num
    calc |Real.sin y| = |Real.sin y - (y - y ^ 3 / 6) + (y - y ^ 3 / 6)| := by congr 1; ring
      _ ≤ |Real.sin y - (y - y ^ 3 / 6)| + |y - y ^ 3 / 6| := abs_add_le _ _
      _ ≤ |Real.sin y - (y - y ^ 3 / 6)| + (|y| + |y ^ 3 / 6|) := by gcongr; exact abs_sub _ _
      _ = _ := by rw [e6]; ring
  linarith [abs_nonneg y]

/-- Near angles have near sines. -/
theorem sin_close {a b : ℝ} (h : |a - b| ≤ 1 / 10) : |Real.sin a - Real.sin b| ≤ 101 / 100 * |a - b| := by
  have e : |(a - b) / 2| = |a - b| / 2 := by rw [abs_div]; norm_num
  have s := sin_le_abs (y := (a - b) / 2) (by rw [e]; linarith)
  have c := Real.abs_cos_le_one ((a + b) / 2)
  rw [Real.sin_sub_sin, abs_mul, abs_mul, abs_two]
  have := mul_le_of_le_one_right (abs_nonneg (Real.sin ((a - b) / 2))) c
  rw [e] at s
  nlinarith

/-- Near angles have near cosines. -/
theorem cos_close {a b : ℝ} (h : |a - b| ≤ 1 / 10) : |Real.cos a - Real.cos b| ≤ 101 / 100 * |a - b| := by
  have e : |(a - b) / 2| = |a - b| / 2 := by rw [abs_div]; norm_num
  have s := sin_le_abs (y := (a - b) / 2) (by rw [e]; linarith)
  have c := Real.abs_sin_le_one ((a + b) / 2)
  rw [Real.cos_sub_cos, abs_mul, abs_mul, abs_neg, abs_two]
  have := mul_le_of_le_one_left (abs_nonneg (Real.sin ((a - b) / 2))) c
  rw [e] at s
  nlinarith

/-! ## The turn -/

/-- The encoding's turn, the sum of its two parts, is a turn up to 4e-10. -/
theorem turn_near : |2 * Real.pi - (25 / 4 + 8908113 / 268435456)| ≤ 4 / 10000000000 := by
  have hpi := Real.two_le_pi
  have hpi' := Real.pi_le_four
  have hq : |(1686629713 / 1073741824 : ℝ)| = 1686629713 / 1073741824 := abs_of_pos (by norm_num)
  have hc := cos_nearer (x := 1686629713 / 1073741824) (by rw [hq]; norm_num)
  have hs : |cosSum (1686629713 / 1073741824)| ≤ 7 / 100000000000 := by
    simp only [cosSum, Finset.sum_range_succ, Finset.sum_range_zero, Nat.factorial]
    rw [abs_le]
    constructor <;> norm_num
  have he : |(1686629713 / 1073741824 : ℝ)| ^ 18 / 3201186852864000 ≤ 2 / 1000000000000 := by
    rw [hq]
    norm_num
  have hcos : |Real.cos (1686629713 / 1073741824)| ≤ 72 / 1000000000000 := by
    have := abs_sub_abs_le_abs_sub (Real.cos (1686629713 / 1073741824)) (cosSum (1686629713 / 1073741824))
    linarith
  have hy : |(1686629713 / 1073741824 - Real.pi / 2 : ℝ)| ≤ 1 := by
    rw [abs_le]
    constructor <;> linarith
  have hsin := abs_le_sin hy
  have ec : Real.cos (1686629713 / 1073741824) = -Real.sin (1686629713 / 1073741824 - Real.pi / 2) := by
    rw [← Real.cos_add_pi_div_two]
    congr 1
    ring
  rw [ec, abs_neg] at hcos
  have e : 2 * Real.pi - (25 / 4 + 8908113 / 268435456) = -4 * (1686629713 / 1073741824 - Real.pi / 2) := by ring
  rw [e, abs_mul]
  norm_num
  linarith

/-- Rounding moves a number by at most a half. -/
theorem round_near (t : ℝ) : |(Ideal.roundHalfEven t : ℝ) - t| ≤ 1 / 2 := by
  have h0 := Int.floor_le t
  have h1 := Int.lt_floor_add_one t
  unfold Ideal.roundHalfEven
  simp only
  rw [abs_le]
  split_ifs <;> push_cast <;> constructor <;> linarith

/-- An angle up to a million, less its whole turns: it is below 16/5 in size, and away from the angle by whole turns up to 7e-5. -/
theorem rest_near {a : ℝ} (h0 : 0 ≤ a) (h1 : a ≤ 1000000) :
    |Spec.rest a| < 16 / 5 ∧ ∃ k : ℤ, |Spec.rest a - (a - k * (2 * Real.pi))| ≤ 7 / 100000 := by
  have hr := round_near (a * word 0x3E22F983#32)
  have ht := turn_near
  unfold Spec.rest Spec.turns
  rw [turn_high, turn_low]
  rw [perTurn] at hr ⊢
  generalize Ideal.roundHalfEven (a * (10680707 / 67108864)) = k at hr ⊢
  rw [abs_le] at hr
  constructor
  · rw [abs_lt]
    constructor <;> linarith
  · refine ⟨k, ?_⟩
    have hk : |(k : ℝ)| ≤ 160000 := by
      rw [abs_le]
      constructor <;> linarith
    have e : a - (k * (25 / 4) + k * (8908113 / 268435456)) - (a - k * (2 * Real.pi))
        = k * (2 * Real.pi - (25 / 4 + 8908113 / 268435456)) := by ring
    rw [e, abs_mul]
    have := mul_le_mul hk ht (abs_nonneg _) (by norm_num)
    linarith

theorem sine_rest {a : ℝ} (h0 : 0 ≤ a) (h1 : a ≤ 1000000) : |Spec.sine (Spec.rest a) - Real.sin a| ≤ 3 / 1000 := by
  obtain ⟨hr, k, hk⟩ := rest_near h0 h1
  have p := Approx.sine_near hr
  have s := sin_close (hk.trans (by norm_num))
  rw [Real.sin_sub_int_mul_two_pi] at s
  have := abs_sub_le (Spec.sine (Spec.rest a)) (Real.sin (Spec.rest a)) (Real.sin a)
  linarith

theorem cosine_rest {a : ℝ} (h0 : 0 ≤ a) (h1 : a ≤ 1000000) : |Spec.cosine (Spec.rest a) - Real.cos a| ≤ 3 / 1000 := by
  obtain ⟨hr, k, hk⟩ := rest_near h0 h1
  have p := Approx.cosine_near hr
  have s := cos_close (hk.trans (by norm_num))
  rw [Real.cos_sub_int_mul_two_pi] at s
  have := abs_sub_le (Spec.cosine (Spec.rest a)) (Real.cos (Spec.rest a)) (Real.cos a)
  linarith

/-! ## The encoding -/

theorem freq_nonneg (k : Fin 64) : 0 ≤ Spec.freq k := by
  unfold Spec.freq
  exact div_nonneg zero_le_one (Real.rpow_nonneg (by norm_num) _)

theorem freq_le_one (k : Fin 64) : Spec.freq k ≤ 1 := by
  unfold Spec.freq
  rw [word_two]
  have h : (1 : ℝ) ≤ Real.rpow 10000 (2 * (k.val : ℝ) / 128) := Real.one_le_rpow (by norm_num) (by positivity)
  exact (div_le_one (lt_of_lt_of_le one_pos h)).2 h

/-- The encoding of position `p` by the sine and the cosine themselves. -/
def trueCode (p : ℤ) (d : Fin 128) : ℝ :=
  if h : d.val < 64 then Real.sin ((p : ℝ) * Spec.freq ⟨d.val, h⟩)
  else Real.cos ((p : ℝ) * Spec.freq ⟨d.val - 64, by have := d.isLt; omega⟩)

/-- The two encodings are within 0.003 of each other. -/
theorem code_near {p : ℤ} (h0 : 0 ≤ p) (h1 : p < 1000000) (d : Fin 128) : |Spec.code p d - trueCode p d| ≤ 3 / 1000 := by
  have p0 : (0 : ℝ) ≤ (p : ℝ) := by exact_mod_cast h0
  have p1 : (p : ℝ) ≤ 1000000 := by exact_mod_cast h1.le
  have a0 : ∀ k, 0 ≤ (p : ℝ) * Spec.freq k := fun k => mul_nonneg p0 (freq_nonneg k)
  have a1 : ∀ k, (p : ℝ) * Spec.freq k ≤ 1000000 := fun k =>
    (mul_le_of_le_one_right p0 (freq_le_one k)).trans p1
  unfold Spec.code trueCode
  split
  · exact sine_rest (a0 _) (a1 _)
  · exact cosine_rest (a0 _) (a1 _)

end Cert.Turn

end
-- ==== Proof.NormNear.lean ====
/-
  The layer norms of two near rows of 128 numbers are near: if no entry moves by more than `δ`, entry `d` of the layer
  norm moves by at most `δ (2 + its size)`, over the root that the second row is divided by.
-/
module

public import proofs.«01_k».proof.Proof.Numbers
public import Mathlib.Algebra.Order.BigOperators.Group.Finset
public import Mathlib.Algebra.BigOperators.Field

@[expose] public section

noncomputable section

namespace Cert.NormNear

open Cert Cert.Numbers
open scoped BigOperators

/-- The root that a row is divided by. -/
def scale (e : ℝ) (X : Fin 128 → ℝ) : ℝ := Real.sqrt (variance X + e)

theorem scale_pos {e : ℝ} (he : 0 < e) (X : Fin 128 → ℝ) : 0 < scale e X :=
  Real.sqrt_pos.2 (by have := variance_nonneg X; linarith)

theorem scale_sq {e : ℝ} (he : 0 < e) (X : Fin 128 → ℝ) : scale e X * scale e X = variance X + e :=
  Real.mul_self_sqrt (by have := variance_nonneg X; linarith)

section
variable {X Z : Fin 128 → ℝ} {δ : ℝ} (h : ∀ d, |X d - Z d| ≤ δ)
include h

/-- The means are near. -/
theorem mean_near : |mean X - mean Z| ≤ δ := by
  have e : mean X - mean Z = (∑ d, (X d - Z d)) / 128 := by
    unfold mean
    rw [Finset.sum_sub_distrib]
    ring
  have s : |∑ d, (X d - Z d)| ≤ 128 * δ := by
    refine (Finset.abs_sum_le_sum_abs _ _).trans ((Finset.sum_le_sum fun d _ => h d).trans (le_of_eq ?_))
    simp
  rw [e, abs_div, abs_of_pos (by norm_num : (0 : ℝ) < 128)]
  linarith

/-- The numbers less their means are near. -/
theorem centred_near (d : Fin 128) : |(X d - mean X) - (Z d - mean Z)| ≤ 2 * δ := by
  have e : (X d - mean X) - (Z d - mean Z) = (X d - Z d) - (mean X - mean Z) := by ring
  rw [e]
  have := abs_sub (X d - Z d) (mean X - mean Z)
  linarith [h d, mean_near h]

end

/-- The mean squared distance of the numbers less their means is at most that of the numbers. -/
theorem centred_square (X Z : Fin 128 → ℝ) :
    ∑ d, ((X d - mean X) - (Z d - mean Z)) * ((X d - mean X) - (Z d - mean Z)) ≤ ∑ d, (X d - Z d) * (X d - Z d) := by
  have hm : mean (fun d => X d - Z d) = mean X - mean Z := by
    unfold mean
    rw [Finset.sum_sub_distrib]
    ring
  have hv := variance_eq fun d => X d - Z d
  unfold variance at hv
  rw [hm] at hv
  have e : ∀ d, ((X d - mean X) - (Z d - mean Z)) * ((X d - mean X) - (Z d - mean Z))
      = (X d - Z d - (mean X - mean Z)) * (X d - Z d - (mean X - mean Z)) := fun d => by ring
  rw [Finset.sum_congr rfl fun d _ => e d]
  nlinarith [mul_self_nonneg (mean X - mean Z)]

/-- The sum of products is at most the product of roots of the sums of squares, in its square. -/
theorem sum_mul_sq (f g : Fin 128 → ℝ) : (∑ d, f d * g d) * (∑ d, f d * g d) ≤ (∑ d, f d * f d) * ∑ d, g d * g d := by
  have := Finset.sum_mul_sq_le_sq_mul_sq Finset.univ f g
  simpa only [pow_two] using this

/-- The two roots are as near as the numbers. -/
theorem scale_near {X Z : Fin 128 → ℝ} {δ e : ℝ} (h : ∀ d, |X d - Z d| ≤ δ) (he : 0 < e) :
    |scale e X - scale e Z| ≤ δ := by
  have hδ : 0 ≤ δ := (abs_nonneg _).trans (h 0)
  have px := scale_pos he X
  have pz := scale_pos he Z
  have sx := scale_sq he X
  have sz := scale_sq he Z
  -- the product of the roots is at least the mean product, plus `e`
  have hp : (∑ d, (X d - mean X) * (Z d - mean Z)) / 128 + e ≤ scale e X * scale e Z := by
    have c := sum_mul_sq (fun d => X d - mean X) (fun d => Z d - mean Z)
    have vx : ∑ d, (X d - mean X) * (X d - mean X) = 128 * variance X := by unfold variance; ring
    have vz : ∑ d, (Z d - mean Z) * (Z d - mean Z) = 128 * variance Z := by unfold variance; ring
    rw [vx, vz] at c
    generalize (∑ d, (X d - mean X) * (Z d - mean Z)) = p at c ⊢
    have hX := variance_nonneg X
    have hZ := variance_nonneg Z
    refine abs_le_of_sq_le_sq' ?_ (by positivity) |>.2
    have am : 2 * (p / 128) ≤ variance X + variance Z := by
      by_contra hn
      have hn' := not_le.1 hn
      nlinarith [mul_self_nonneg (variance X - variance Z)]
    have : (scale e X * scale e Z) ^ 2 = (variance X + e) * (variance Z + e) := by rw [← sx, ← sz]; ring
    rw [this]
    nlinarith
  have hd : (∑ d, ((X d - mean X) - (Z d - mean Z)) * ((X d - mean X) - (Z d - mean Z))) ≤ 128 * (δ * δ) := by
    have hs : ∑ d, (X d - Z d) * (X d - Z d) ≤ ∑ _d : Fin 128, δ * δ := Finset.sum_le_sum fun d _ => by
      rw [← abs_mul_abs_self]
      exact mul_le_mul (h d) (h d) (abs_nonneg _) hδ
    refine (centred_square X Z).trans (hs.trans (le_of_eq ?_))
    simp
  have hx : ∑ d, ((X d - mean X) - (Z d - mean Z)) * ((X d - mean X) - (Z d - mean Z))
      = 128 * variance X + 128 * variance Z - 2 * ∑ d, (X d - mean X) * (Z d - mean Z) := by
    have e' : ∀ d, ((X d - mean X) - (Z d - mean Z)) * ((X d - mean X) - (Z d - mean Z))
        = (X d - mean X) * (X d - mean X) + (Z d - mean Z) * (Z d - mean Z) - 2 * ((X d - mean X) * (Z d - mean Z)) := fun d => by ring
    rw [Finset.sum_congr rfl fun d _ => e' d, Finset.sum_sub_distrib, Finset.sum_add_distrib, ← Finset.mul_sum]
    unfold variance
    ring
  refine abs_le_of_sq_le_sq (by nlinarith) hδ

/-- The layer norms are near. -/
theorem normed_near {X Z : Fin 128 → ℝ} {δ e : ℝ} (h : ∀ d, |X d - Z d| ≤ δ) (he : 0 < e) (d : Fin 128) :
    |normed e X d - normed e Z d| * scale e Z ≤ δ * (2 + |normed e X d|) := by
  have px := scale_pos he X
  have pz := scale_pos he Z
  have ex : X d - mean X = normed e X d * scale e X := by
    unfold normed
    exact (div_mul_cancel₀ _ px.ne').symm
  have ez : Z d - mean Z = normed e Z d * scale e Z := by
    unfold normed
    exact (div_mul_cancel₀ _ pz.ne').symm
  have k : (normed e X d - normed e Z d) * scale e Z
      = ((X d - mean X) - (Z d - mean Z)) - normed e X d * (scale e X - scale e Z) := by
    rw [ex, ez]
    ring
  rw [← abs_of_pos pz, ← abs_mul, k]
  refine (abs_sub _ _).trans ?_
  rw [abs_mul]
  have a := centred_near h d
  have b := mul_le_mul_of_nonneg_left (scale_near h he) (abs_nonneg (normed e X d))
  linarith

end Cert.NormNear

end
-- ==== Proof.PostRead.lean ====
/-
  The postcondition at an index: it compares the result with the layer norm of the two table rows and the encoding by
  the sine and the cosine themselves.
-/
module

public import proofs.«01_k».proof.Defs
public import proofs.«01_k».proof.Proof.RefTake
public import proofs.«01_k».proof.Proof.Turn
public import proofs.«01_k».proof.Proof.NormNear
public import Idealize.ShloMosaic.Lib.Pointwise
public import Idealize.ShloMosaic.Lib.StableHlo.Predicate

@[expose] public section

set_option maxRecDepth 16384

noncomputable section

namespace Cert.PostRead

open Idealize.ShloMosaic
open Cert Cert.Numbers Cert.NormNear

/-- The shape relations of the postcondition's operations. -/
theorem facts : Post_near.Facts where
  bcast_S_S1024x200 := by decide
  bcast_S1024x200_S1024x200x1_0_1 := by decide
  bcast_S_S1024x200x1 := by decide
  bcast_S1_S1x1x1_2 := by decide
  bcast_S1x1x1_S1024x200x1_0_1_2 := by decide
  reducesTo_S1024x200x1_S1024x200_d2 := ReferenceIdeal.Gen.reducesTo_S1024x200x1_S1024x200_d2
  h_S_ := by decide
  bcast_S1024x200_S1024x200x128_0_1 := by decide
  bcast_S_S1024x200x128 := by decide
  bcast_S_S64 := by decide
  bcast_S64_S1x1x64_2 := by decide
  bcast_S1024x200x1_S1024x200x64_0_1_2 := by decide
  bcast_S1x1x64_S1024x200x64_0_1_2 := by decide
  concatenates_S1024x200x64_S1024x200x64_S1024x200x128_d2 := ReferenceIdeal.Gen.concatenates_S1024x200x64_S1024x200x64_S1024x200x128_d2
  reducesTo_S1024x200x128_S1024x200_d2 := ReferenceIdeal.Gen.reducesTo_S1024x200x128_S1024x200_d2
  bcast_S1024x200x1_S1024x200x128_0_1_2 := by decide
  bcast_S128_S1x1x128_2 := by decide
  bcast_S1x1x128_S1024x200x128_0_1_2 := by decide
  gather_S2x128_S1024x200x1_S1024x200x128_2_0_n_n_0_2_1128_wf := ReferenceIdeal.Gen.gather_S2x128_S1024x200x1_S1024x200x128_2_0_n_n_0_2_1128_wf
  gather_S24x128_S1024x200x1_S1024x200x128_2_0_n_n_0_2_1128_wf := ReferenceIdeal.Gen.gather_S24x128_S1024x200x1_S1024x200x128_2_0_n_n_0_2_1128_wf

/-- A token before the layer norm, its position encoded by the sine and the cosine. -/
def trueToken (snp chrom : Fin 128 → ℝ) (p : ℤ) (d : Fin 128) : ℝ := snp d + chrom d + Turn.trueCode p d

variable [Post_near.Facts]

/-- Its lookups are the reference's. -/
theorem take_snp (x3 : FVec Ideal Post_near.S2x128 .f32) (x0 : IVec Post_near.S1024x200 32) :
    Post_near.fn_take (F := Ideal) x3 x0 = ReferenceIdeal.Read.val_main_v0 (F := Ideal) x0 x3 := rfl

theorem take_chrom (x4 : FVec Ideal Post_near.S24x128 .f32) (x1 : IVec Post_near.S1024x200 32) :
    Post_near.fn_take_0 (F := Ideal) x4 x1 = ReferenceIdeal.Read.val_main_v1 (F := Ideal) x1 x4 := rfl

/-- A sum over the first half and a sum over the second half are the sum over all 128. -/
theorem halves (f : Fin 128 → EReal) :
    (∑ x : Fin 64, f ⟨x.val, by omega⟩) + (∑ x : Fin 64, f ⟨64 + x.val, by omega⟩) = ∑ k, f k :=
  (Fin.sum_univ_add (a := 64) (b := 64) f).symm

theorem word_bound : 3 / 1000 ≤ word 0x3B449BA6#32 := by
  have h : word 0x3B449BA6#32 = 6442451 / 2147483648 := by
    unfold word; simp [Ideal.ofBits, Ideal.ieee, EReal.toReal_mul]; norm_num
  rw [h]; norm_num

/-- The root the postcondition scales by. -/
theorem scale_twoPass {e : ℝ} (he : 0 < e) (X : Fin 128 → ℝ) :
    Ideal.sqrt (Ideal.div (∑ k, ((X k : EReal) - Ideal.div (∑ k, (X k : EReal)) ((128 : ℝ) : EReal))
        * ((X k : EReal) - Ideal.div (∑ k, (X k : EReal)) ((128 : ℝ) : EReal))) ((128 : ℝ) : EReal) + (e : EReal))
      = (scale e X : EReal) := by
  have hs : (∑ k, (X k : EReal)) = ((∑ k, X k : ℝ) : EReal) := coe_sum _ _
  rw [hs, div_real _ (by norm_num)]
  have hq : (∑ k, ((X k : EReal) - (mean X : EReal)) * ((X k : EReal) - (mean X : EReal)))
      = ((∑ k, (X k - mean X) * (X k - mean X) : ℝ) : EReal) := by
    rw [← coe_sum]; exact Finset.sum_congr rfl fun k _ => by rw [← EReal.coe_sub, ← EReal.coe_mul]
  have hv : 0 < variance X + e := by have := variance_nonneg X; linarith
  change Ideal.sqrt (Ideal.div (∑ k, ((X k : EReal) - (mean X : EReal)) * ((X k : EReal) - (mean X : EReal))) _ + _) = _
  rw [hq, div_real _ (by norm_num), ← EReal.coe_add]
  exact sqrt_real hv.le

theorem abs_real (a : ℝ) : (FloatOps.absf (F := Ideal) (φ := .f32) (a : EReal)) = ((|a| : ℝ) : EReal) := by
  change max (a : EReal) (-(a : EReal)) = _
  rw [← EReal.coe_neg]
  exact (EReal.coe_strictMono.monotone.map_max (a := a) (b := -a)).symm

/-- The frequency of pair `n`, as the postcondition computes it. -/
abbrev angle (n : ℕ) : EReal :=
  Ideal.div 1 (Ideal.pow (Ideal.ofBits .f32 0x461C4000#32) (Ideal.div
    (Ideal.ofBits .f32 0x40000000#32 * (FloatOps.sitofp FTy.f32 (BitVec.ofNat 32 n) : Ideal .f32)) (Ideal.ofBits .f32 0x43000000#32)))

theorem angle_eq {n : ℕ} (h : n < 64) : angle n = (Spec.freq ⟨n, h⟩ : EReal) := Spec.freq_eq ⟨n, h⟩

/-- Where the result is a real, the comparison is one between reals. -/
theorem post_at {x0 x1 x2 : IVec Post_near.S1024x200 32} {x3 : FVec Ideal Post_near.S2x128 .f32}
    {x4 : FVec Ideal Post_near.S24x128 .f32} {x5 x6 : FVec Ideal Post_near.S128 .f32} {y : FVec Ideal Post_near.S1024x200x128 .f32}
    (h0 : ReferenceIdeal.Token.Below 2 x0) (h1 : ReferenceIdeal.Token.Below 24 x1) {b : Fin 1024} {l : Fin 200} {v : Fin 2} {c : Fin 24}
    (hv : x0 (ix2 b l) = BitVec.ofNat 32 v.val) (hc : x1 (ix2 b l) = BitVec.ofNat 32 c.val) {snp chrom : Fin 128 → ℝ}
    (hs : ∀ d, x3 (ix2 v d) = (snp d : EReal)) (ht : ∀ d, x4 (ix2 c d) = (chrom d : EReal))
    (h5 : ∀ d, x5 (ix1 d) = 1) (h6 : ∀ d, x6 (ix1 d) = 0) (d : Fin 128) {r : ℝ} (hy : y (ix3 b l d) = (r : EReal))
    (h : let Z := trueToken snp chrom (x2 (ix2 b l) : BitVec 32).toInt
      |r - normed (word 0x3727C5AC#32) Z d| * scale (word 0x3727C5AC#32) Z ≤ word 0x3B449BA6#32 * (2 + |r|)) :
    Post_near.fn (F := Ideal) x0 x1 x2 x3 x4 x5 x6 y (ix3 b l d) = 1#1 := by
  set p : ℤ := (x2 (ix2 b l) : BitVec 32).toInt with hp
  have hq : (FloatOps.sitofp FTy.f32 (x2 (ix2 b l)) : Ideal .f32) = (((p : ℤ) : ℝ) : EReal) := rfl
  have first : ∀ (k : Fin 64) (hk : k.val < 128),
      (snp ⟨k.val, hk⟩ : EReal) + (chrom ⟨k.val, hk⟩ : EReal) + Ideal.sin (((p : ℤ) : ℝ) * (Spec.freq k : ℝ))
        = (trueToken snp chrom p ⟨k.val, hk⟩ : EReal) := by
    intro k hk
    rw [trueToken, Turn.trueCode, dif_pos k.isLt, ← EReal.coe_mul]
    rfl
  have second : ∀ (k : Fin 64) (hk : 64 + k.val < 128),
      (snp ⟨64 + k.val, hk⟩ : EReal) + (chrom ⟨64 + k.val, hk⟩ : EReal) + Ideal.cos (((p : ℤ) : ℝ) * (Spec.freq k : ℝ))
        = (trueToken snp chrom p ⟨64 + k.val, hk⟩ : EReal) := by
    intro k hk
    have e : (⟨64 + k.val - 64, by omega⟩ : Fin 64) = k := Fin.ext (by simp)
    rw [trueToken, Turn.trueCode, dif_neg (by simp), ← EReal.coe_mul]
    simp only [e]
    rfl
  have here : (snp d : EReal) + (chrom d : EReal)
      + (if _h : d.val < 64 then Ideal.sin (((p : ℤ) : ℝ) * angle d.val) else Ideal.cos (((p : ℤ) : ℝ) * angle (d.val - 64)))
        = (trueToken snp chrom p d : EReal) := by
    unfold trueToken Turn.trueCode
    split
    · rename_i h
      rw [angle_eq h, ← EReal.coe_mul]
      rfl
    · rw [angle_eq (by have := d.isLt; omega), ← EReal.coe_mul]
      rfl
  have sums : (∑ x : Fin 64, (trueToken snp chrom p ⟨x.val, by omega⟩ : EReal))
      + (∑ x : Fin 64, (trueToken snp chrom p ⟨64 + x.val, by omega⟩ : EReal)) = ∑ k, (trueToken snp chrom p k : EReal) :=
    halves fun k => (trueToken snp chrom p k : EReal)
  have squares : ∀ m : EReal, (∑ x : Fin 64, ((trueToken snp chrom p ⟨x.val, by omega⟩ : EReal) - m)
        * ((trueToken snp chrom p ⟨x.val, by omega⟩ : EReal) - m))
      + (∑ x : Fin 64, ((trueToken snp chrom p ⟨64 + x.val, by omega⟩ : EReal) - m)
        * ((trueToken snp chrom p ⟨64 + x.val, by omega⟩ : EReal) - m))
      = ∑ k, ((trueToken snp chrom p k : EReal) - m) * ((trueToken snp chrom p k : EReal) - m) :=
    fun m => halves fun k => ((trueToken snp chrom p k : EReal) - m) * ((trueToken snp chrom p k : EReal) - m)
  pointwise [Post_near.fn, Post_near.fn_part1, Post_near.fn_part2]
  simp only [take_snp, take_chrom, ReferenceIdeal.Token.snp_at h0 _ _ _ _ hv, ReferenceIdeal.Token.chrom_at h1 _ _ _ _ hc, hs, ht, hq, hy,
    Spec.freq_eq, first, second, here, h5, h6, mul_one, add_zero, sums, squares]
  rw [ofBits_word 0x43000000#32 (by decide), word_128, ofBits_word 0x3727C5AC#32 (by decide), ofBits_word 0x3B449BA6#32 (by decide),
    ofBits_word 0x40000000#32 (by decide), Turn.word_two, normed_twoPass word_eps_pos, scale_twoPass word_eps_pos, ← EReal.coe_sub,
    abs_real, abs_real, ← EReal.coe_mul, ← EReal.coe_add, ← EReal.coe_mul]
  exact (StableHlo.Predicate.ofBool_eq_one_iff _).mpr (decide_eq_true (EReal.coe_le_coe_iff.2 h))

end Cert.PostRead

end
-- ==== Proof.Near.lean ====
/-
  Of arguments drawn as the problem draws them, positions included, the idealized kernel's result is near the layer norm of
  the tokens encoded by the sine and the cosine themselves.
-/
module

public import proofs.«01_k».proof.Proof.KernelToken
public import proofs.«01_k».proof.Proof.Drawn
public import proofs.«01_k».proof.Proof.PostRead

@[expose] public section

set_option maxRecDepth 16384

noncomputable section

namespace Cert.Placed

open Idealize.ShloMosaic
open Cert

/-- The shape relations of the precondition's operations. -/
theorem facts : Pre_placed.Facts where
  bcast_S_S1024x200 := by decide
  bcast_S_S2x128 := by decide
  bcast_S_S24x128 := by decide
  bcast_S_S128 := by decide

/-- The positions are at least zero and below a million. -/
theorem positions_range [Pre_placed.Facts] {x0 x1 x2 : IVec Pre_placed.S1024x200 32} {x3 : FVec Ideal Pre_placed.S2x128 .f32}
    {x4 : FVec Ideal Pre_placed.S24x128 .f32} {x5 x6 : FVec Ideal Pre_placed.S128 .f32}
    (h : (Pre_placed.fn (F := Ideal) x0 x1 x2 x3 x4 x5 x6).2.2.2.2.2.2 = fun _ => 1#1) (b : Fin 1024) (s : Fin 200) :
    0 ≤ (x2 (ix2 b s) : BitVec 32).toInt ∧ (x2 (ix2 b s) : BitVec 32).toInt < 1000000 := by
  have e := congrFun h (ix2 b s)
  revert e
  pointwise [Pre_placed.fn, Pre_placed.fn_part1]
  intro e
  rw [IntOp.andi_eq_one, IntOp.cmpi_sge, IntOp.cmpi_slt] at e
  exact e

end Cert.Placed

namespace Cert.Proof

open Idealize.ShloMosaic Idealize.ShloMosaic.TcCoe
open Idealize.SL.Sem
open Cert Cert.Numbers
open Cert.KernelIdeal (nD τ sig main_arg0 main_arg1 main_arg2 main_arg3 main_arg4 main_arg5 main_arg6)

section
variable [Cert.Pre_drawn.Facts] [Cert.Pre_placed.Facts] [Cert.Post_near.Facts] (m : (ℓ : Loc nD τ sig) → Buf (Elt Ideal) ℓ)

/-- Arguments that the precondition with positions holds of are arguments that the one without holds of. -/
theorem drawn_of_placed (h : Cert.Pre_KernelIdeal_placed m) : Cert.Pre_KernelIdeal_drawn m := fun c =>
  ⟨(h c).1, (h c).2.1, (h c).2.2.1, (h c).2.2.2.1, (h c).2.2.2.2.1, (h c).2.2.2.2.2.1⟩

/-- The postcondition holds of the kernel's result. -/
theorem result_near (h : Cert.Pre_KernelIdeal_placed m) (c : Dev nD) :
    Cert.Post_near.fn (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (KernelIdeal.Embed.result m c)
      = fun _ => 1#1 := by
  obtain ⟨p0, p1, p3, p4, p5, p6⟩ := drawn_of_placed m h c
  have below0 := Drawn.values_below p0
  have below1 := Drawn.chromosomes_below p1
  funext i
  obtain ⟨b, s, d, rfl⟩ : ∃ (b : Fin 1024) (s : Fin 200) (d : Fin 128), i = ix3 b s d :=
    ⟨i 0, i 1, i 2, funext fun | 0 => rfl | 1 => rfl | 2 => rfl⟩
  obtain ⟨v, hv⟩ := below0 b s
  obtain ⟨k, hk⟩ := below1 b s
  obtain ⟨q0, q1⟩ := Placed.positions_range (h c).2.2.2.2.2.2 b s
  have eta : ∀ q : KernelIdeal.S1024x200.Idx, q = ix2 (q 0 : Fin 1024) (q 1 : Fin 200) := fun q => funext fun | 0 => rfl | 1 => rfl
  refine PostRead.post_at (fun q => ?_) (fun q => ?_) hv hk (Drawn.snp_real p3 v) (Drawn.chrom_real p4 k)
    (Drawn.gamma_one p5) (Drawn.beta_zero p6) d
    (KernelIdeal.Embed.result_at m c hv hk (Drawn.snp_real p3 v) (Drawn.chrom_real p4 k) d) ?_
  · rw [eta q]; exact below0 _ _
  · rw [eta q]; exact below1 _ _
  · refine (NormNear.normed_near (δ := 3 / 1000) (fun j => ?_) word_eps_pos d).trans
      (mul_le_mul_of_nonneg_right PostRead.word_bound (by positivity))
    unfold Spec.token PostRead.trueToken
    rw [add_sub_add_left_eq_sub]
    exact Turn.code_near q0 q1 j

end

/-- The idealized kernel ends with a result that the postcondition holds of, its arguments kept. -/
theorem near [Cert.Pre_placed.Facts] [Cert.Post_near.Facts] :
    Cert.holds_KernelIdeal_near_pre_placed (hKernelIdeal := Cert.KernelIdeal.Gen.facts) := by
  intro m g hpre
  haveI := Drawn.facts
  refine (θ_run Cert.KernelIdeal.defs _ _).mono (fun r h c => ?_) (KernelIdeal.Embed.run_result (F := Ideal) m g)
  obtain ⟨e, a0, a1, a2, a3, a4, a5, a6⟩ := h c
  refine ⟨a0, a1, a2, a3, a4, a5, a6, ?_⟩
  rw [e]
  exact result_near m hpre c

end Cert.Proof

end
-- ==== Proof.lean ====
/-
  The certificate: each of its claims, assembled from the modules under `Proof/`.
-/
module

public import proofs.«01_k».proof.Proof.Frames
public import proofs.«01_k».proof.Proof.Equation
public import proofs.«01_k».proof.Proof.Near
public import Idealize.ShloMosaic.Adequacy
public import Idealize.ShloMosaic.Init

@[expose] public section

namespace Cert.Proof

open Idealize.ShloMosaic
open Idealize.SL.Sem

/-- No operation is rewritten, so there is nothing to preserve. -/
theorem preserves : Cert.preserves_Kernel_KernelIdeal := trivial

end Cert.Proof

/-- The certificate's claim. -/
theorem Cert.Proof.claim : Cert.Claim :=
  haveI := Cert.Drawn.facts
  haveI := Cert.Placed.facts
  haveI := Cert.PostRead.facts
  ⟨Cert.Kernel.Gen.facts, Cert.KernelIdeal.Gen.facts, Cert.ReferenceIdeal.Gen.facts, Cert.Drawn.facts,
    Cert.Placed.facts, Cert.PostRead.facts, Cert.Proof.frame_p, Cert.Proof.frame_pi, Cert.Proof.frame_pi_drawn,
    Cert.Proof.frame_pi_placed, Cert.Proof.frame_ri, Cert.Proof.frame_ri_drawn, Cert.Proof.preserves, Cert.Proof.algebraic,
    Cert.Proof.near⟩

end
